-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.BufferStatement Cert.KernelIdeal.S156x2x512 Cert.KernelIdeal.S156x1x512
  ∧ IdealRules.bf16_pair.Statement Cert.KernelIdeal.S8x512 Cert.KernelIdeal.S4x512
  ∧ IdealRules.bf16_pair.Statement Cert.KernelIdeal.S4x2x512 Cert.KernelIdeal.S4x1x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x9984 : Shape := ⟨3, ![96, 1, 9984]⟩
abbrev S11008x4992 : Shape := ⟨2, ![11008, 4992]⟩
abbrev S11008x39 : Shape := ⟨2, ![11008, 39]⟩
abbrev S11008x312 : Shape := ⟨2, ![11008, 312]⟩
abbrev S96x9984 : Shape := ⟨2, ![96, 9984]⟩
abbrev S39x11008 : Shape := ⟨2, ![39, 11008]⟩
abbrev S312x11008 : Shape := ⟨2, ![312, 11008]⟩
abbrev S96x11008 : Shape := ⟨2, ![96, 11008]⟩
abbrev S512x4992 : Shape := ⟨2, ![512, 4992]⟩
abbrev S39x512 : Shape := ⟨2, ![39, 512]⟩
abbrev S312x512 : Shape := ⟨2, ![312, 512]⟩
abbrev S96x512 : Shape := ⟨2, ![96, 512]⟩
abbrev S156x512 : Shape := ⟨2, ![156, 512]⟩
abbrev S96x128 : Shape := ⟨2, ![96, 128]⟩
abbrev S96x128x1 : Shape := ⟨3, ![96, 128, 1]⟩
abbrev S8x512 : Shape := ⟨2, ![8, 512]⟩
abbrev S1x512 : Shape := ⟨2, ![1, 512]⟩
abbrev S4x512 : Shape := ⟨2, ![4, 512]⟩
abbrev S512x128 : Shape := ⟨2, ![512, 128]⟩
abbrev S128x512 : Shape := ⟨2, ![128, 512]⟩
abbrev S32x512 : Shape := ⟨2, ![32, 512]⟩
abbrev S32x1x512 : Shape := ⟨3, ![32, 1, 512]⟩
abbrev S32x2x512 : Shape := ⟨3, ![32, 2, 512]⟩
abbrev S64x512 : Shape := ⟨2, ![64, 512]⟩
abbrev S2x512 : Shape := ⟨2, ![2, 512]⟩
abbrev S1x2x512 : Shape := ⟨3, ![1, 2, 512]⟩
abbrev S256x512 : Shape := ⟨2, ![256, 512]⟩
abbrev S96x256 : Shape := ⟨2, ![96, 256]⟩

abbrev nBuf : Space → Nat
  | .hbm => 12
  | .vmem => 16
  | .smem => 0
  | _ => 0

abbrev bufTy : (tb : Table) → Fin (tcTables nBuf tb) → BufTy
  | .hbm, ⟨0, _⟩ => ⟨S96x1x9984, .bf16⟩
  | .hbm, ⟨1, _⟩ => ⟨S11008x4992, .i8⟩
  | .hbm, ⟨2, _⟩ => ⟨S11008x39, .i16⟩
  | .hbm, ⟨3, _⟩ => ⟨S11008x39, .i16⟩
  | .hbm, ⟨4, _⟩ => ⟨S11008x312, .i8⟩
  | .hbm, ⟨5, _⟩ => ⟨S11008x312, .i8⟩
  | .hbm, ⟨6, _⟩ => ⟨S96x9984, .bf16⟩
  | .hbm, ⟨7, _⟩ => ⟨S39x11008, .i16⟩
  | .hbm, ⟨8, _⟩ => ⟨S39x11008, .i16⟩
  | .hbm, ⟨9, _⟩ => ⟨S312x11008, .i8⟩
  | .hbm, ⟨10, _⟩ => ⟨S312x11008, .i8⟩
  | .hbm, ⟨11, _⟩ => ⟨S96x11008, .bf16⟩
  | .local _ .vmem, ⟨0, _⟩ => ⟨S96x9984, .bf16⟩
  | .local _ .vmem, ⟨1, _⟩ => ⟨S512x4992, .i8⟩
  | .local _ .vmem, ⟨2, _⟩ => ⟨S512x4992, .i8⟩
  | .local _ .vmem, ⟨3, _⟩ => ⟨S39x512, .i16⟩
  | .local _ .vmem, ⟨4, _⟩ => ⟨S39x512, .i16⟩
  | .local _ .vmem, ⟨5, _⟩ => ⟨S39x512, .i16⟩
  | .local _ .vmem, ⟨6, _⟩ => ⟨S39x512, .i16⟩
  | .local _ .vmem, ⟨7, _⟩ => ⟨S312x512, .i8⟩
  | .local _ .vmem, ⟨8, _⟩ => ⟨S312x512, .i8⟩
  | .local _ .vmem, ⟨9, _⟩ => ⟨S312x512, .i8⟩
  | .local _ .vmem, ⟨10, _⟩ => ⟨S312x512, .i8⟩
  | .local _ .vmem, ⟨11, _⟩ => ⟨S96x512, .bf16⟩
  | .local _ .vmem, ⟨12, _⟩ => ⟨S96x512, .bf16⟩
  | .local _ .vmem, ⟨13, _⟩ => ⟨S96x9984, .bf16⟩
  | .local _ .vmem, ⟨14, _⟩ => ⟨S156x512, .i32⟩
  | .local _ .vmem, ⟨15, _⟩ => ⟨S156x512, .i32⟩
  | _, _ => ⟨S96x1x9984, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x9984 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4992 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S39x512 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S39x512 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S312x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S312x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S156x2x512 : Shape := ⟨3, ![156, 2, 512]⟩
abbrev S156x1x512 : Shape := ⟨3, ![156, 1, 512]⟩
abbrev S4x2x512 : Shape := ⟨3, ![4, 2, 512]⟩
abbrev S4x1x512 : Shape := ⟨3, ![4, 1, 512]⟩
  | .local _ .vmem, ⟨14, _⟩ => ⟨S156x2x512, .bf16⟩
  | .local _ .vmem, ⟨15, _⟩ => ⟨S156x2x512, .bf16⟩
variable {F : FTy → Type} [FloatOps F]
-- ==== ReferenceIdeal.lean ====
abbrev S96x1x9984 : Shape := ⟨3, ![96, 1, 9984]⟩
abbrev S11008x4992 : Shape := ⟨2, ![11008, 4992]⟩
abbrev S11008x39 : Shape := ⟨2, ![11008, 39]⟩
abbrev S11008x312 : Shape := ⟨2, ![11008, 312]⟩
abbrev S11008x156x32 : Shape := ⟨3, ![11008, 156, 32]⟩
abbrev S_ : Shape := ⟨0, ![]⟩
abbrev S11008x39x8 : Shape := ⟨3, ![11008, 39, 8]⟩
abbrev S11008x39x1 : Shape := ⟨3, ![11008, 39, 1]⟩
abbrev S11008x156x2 : Shape := ⟨3, ![11008, 156, 2]⟩
abbrev S11008x156x1 : Shape := ⟨3, ![11008, 156, 1]⟩
abbrev S11008x156 : Shape := ⟨2, ![11008, 156]⟩
abbrev S96x156x2x32 : Shape := ⟨4, ![96, 156, 2, 32]⟩
abbrev S96x156x1x32 : Shape := ⟨4, ![96, 156, 1, 32]⟩
abbrev S96x156x32 : Shape := ⟨3, ![96, 156, 32]⟩
abbrev S96x11008 : Shape := ⟨2, ![96, 11008]⟩

abbrev nBuf : Space → Nat
  | .hbm => 135
  | .vmem => 0
  | .smem => 0
  | _ => 0

abbrev hbmTy0_0 (i : Nat) : BufTy := match i % 128 with
  | 0 => ⟨S96x1x9984, .bf16⟩
  | 1 => ⟨S11008x4992, .i8⟩
  | 2 => ⟨S11008x39, .i16⟩
  | 3 => ⟨S11008x39, .i16⟩
  | 4 => ⟨S11008x312, .i8⟩
  | 5 => ⟨S11008x312, .i8⟩
  | 6 => ⟨S11008x4992, .i32⟩
  | 7 => ⟨S11008x156x32, .i32⟩
  | 8 => ⟨S_, .i32⟩
  | 9 => ⟨S11008x156x32, .i32⟩
  | 10 => ⟨S11008x156x32, .i32⟩
  | 11 => ⟨S11008x156x32, .bf16⟩
  | 12 => ⟨S_, .i32⟩
  | 13 => ⟨S11008x156x32, .i32⟩
  | 14 => ⟨S11008x156x32, .i32⟩
  | 15 => ⟨S11008x156x32, .bf16⟩
  | 16 => ⟨S11008x39x8, .i8⟩
  | 17 => ⟨S11008x39x8, .i32⟩
  | 18 => ⟨S11008x39x8, .f32⟩
  | 19 => ⟨S11008x39, .i32⟩
  | 20 => ⟨S_, .i32⟩
  | 21 => ⟨S11008x39, .i32⟩
  | 22 => ⟨S11008x39, .i32⟩
  | 23 => ⟨S_, .i32⟩
  | 24 => ⟨S11008x39, .i32⟩
  | 25 => ⟨S11008x39, .i32⟩
  | 26 => ⟨S_, .i32⟩
  | 27 => ⟨S11008x39, .i32⟩
  | 28 => ⟨S11008x39, .i32⟩
  | 29 => ⟨S_, .i32⟩
  | 30 => ⟨S11008x39, .i32⟩
  | 31 => ⟨S11008x39, .i1⟩
  | 32 => ⟨S_, .i32⟩
  | 33 => ⟨S11008x39, .i32⟩
  | 34 => ⟨S11008x39, .i32⟩
  | 35 => ⟨S11008x39, .i32⟩
  | 36 => ⟨S_, .i32⟩
  | 37 => ⟨S11008x39, .i32⟩
  | 38 => ⟨S11008x39, .i32⟩
  | 39 => ⟨S_, .i32⟩
  | 40 => ⟨S11008x39, .i32⟩
  | 41 => ⟨S11008x39, .i32⟩
  | 42 => ⟨S_, .i32⟩
  | 43 => ⟨S11008x39, .i32⟩
  | 44 => ⟨S11008x39, .i32⟩
  | 45 => ⟨S11008x39, .f32⟩
  | 46 => ⟨S11008x39, .f32⟩
  | 47 => ⟨S11008x39, .f32⟩
  | 48 => ⟨S_, .f32⟩
  | 49 => ⟨S11008x39, .f32⟩
  | 50 => ⟨S11008x39, .f32⟩
  | 51 => ⟨S_, .i32⟩
  | 52 => ⟨S11008x39, .i32⟩
  | 53 => ⟨S11008x39, .i1⟩
  | 54 => ⟨S11008x39, .f32⟩
  | 55 => ⟨S11008x39, .f32⟩
  | 56 => ⟨S11008x39x1, .f32⟩
  | 57 => ⟨S11008x39x8, .f32⟩
  | 58 => ⟨S11008x39x8, .f32⟩
  | 59 => ⟨S11008x39x8, .bf16⟩
  | 60 => ⟨S11008x156x2, .bf16⟩
  | 61 => ⟨S11008x39x8, .i8⟩
  | 62 => ⟨S11008x39x8, .i32⟩
  | 63 => ⟨S11008x39x8, .f32⟩
  | 64 => ⟨S11008x39, .i32⟩
  | 65 => ⟨S_, .i32⟩
  | 66 => ⟨S11008x39, .i32⟩
  | 67 => ⟨S11008x39, .i32⟩
  | 68 => ⟨S_, .i32⟩
  | 69 => ⟨S11008x39, .i32⟩
  | 70 => ⟨S11008x39, .i32⟩
  | 71 => ⟨S_, .i32⟩
  | 72 => ⟨S11008x39, .i32⟩
  | 73 => ⟨S11008x39, .i32⟩
  | 74 => ⟨S_, .i32⟩
  | 75 => ⟨S11008x39, .i32⟩
  | 76 => ⟨S11008x39, .i1⟩
  | 77 => ⟨S_, .i32⟩
  | 78 => ⟨S11008x39, .i32⟩
  | 79 => ⟨S11008x39, .i32⟩
  | 80 => ⟨S11008x39, .i32⟩
  | 81 => ⟨S_, .i32⟩
  | 82 => ⟨S11008x39, .i32⟩
  | 83 => ⟨S11008x39, .i32⟩
  | 84 => ⟨S_, .i32⟩
  | 85 => ⟨S11008x39, .i32⟩
  | 86 => ⟨S11008x39, .i32⟩
  | 87 => ⟨S_, .i32⟩
  | 88 => ⟨S11008x39, .i32⟩
  | 89 => ⟨S11008x39, .i32⟩
  | 90 => ⟨S11008x39, .f32⟩
  | 91 => ⟨S11008x39, .f32⟩
  | 92 => ⟨S11008x39, .f32⟩
  | 93 => ⟨S_, .f32⟩
  | 94 => ⟨S11008x39, .f32⟩
  | 95 => ⟨S11008x39, .f32⟩
  | 96 => ⟨S_, .i32⟩
  | 97 => ⟨S11008x39, .i32⟩
  | 98 => ⟨S11008x39, .i1⟩
  | 99 => ⟨S11008x39, .f32⟩
  | 100 => ⟨S11008x39, .f32⟩
  | 101 => ⟨S11008x39x1, .f32⟩
  | 102 => ⟨S11008x39x8, .f32⟩
  | 103 => ⟨S11008x39x8, .f32⟩
  | 104 => ⟨S11008x39x8, .bf16⟩
  | 105 => ⟨S11008x156x2, .bf16⟩
  | 106 => ⟨S11008x156x1, .bf16⟩
  | 107 => ⟨S11008x156, .bf16⟩
  | 108 => ⟨S11008x156x1, .bf16⟩
  | 109 => ⟨S11008x156x32, .bf16⟩
  | 110 => ⟨S11008x156x32, .bf16⟩
  | 111 => ⟨S11008x156x1, .bf16⟩
  | 112 => ⟨S11008x156, .bf16⟩
  | 113 => ⟨S11008x156x1, .bf16⟩
  | 114 => ⟨S11008x156x32, .bf16⟩
  | 115 => ⟨S11008x156x32, .bf16⟩
  | 116 => ⟨S11008x156x1, .bf16⟩
  | 117 => ⟨S11008x156, .bf16⟩
  | 118 => ⟨S11008x156x1, .bf16⟩
  | 119 => ⟨S11008x156x32, .bf16⟩
  | 120 => ⟨S11008x156x32, .bf16⟩
  | 121 => ⟨S11008x156x1, .bf16⟩
  | 122 => ⟨S11008x156, .bf16⟩
  | 123 => ⟨S11008x156x1, .bf16⟩
  | 124 => ⟨S11008x156x32, .bf16⟩
  | 125 => ⟨S11008x156x32, .bf16⟩
  | 126 => ⟨S96x156x2x32, .bf16⟩
  | 127 => ⟨S96x156x1x32, .bf16⟩
  | _ => ⟨S96x1x9984, .bf16⟩

abbrev hbmTy0_1 (i : Nat) : BufTy := match i % 128 with
  | 0 => ⟨S96x156x32, .bf16⟩
  | 1 => ⟨S96x11008, .f32⟩
  | 2 => ⟨S96x156x1x32, .bf16⟩
  | 3 => ⟨S96x156x32, .bf16⟩
  | 4 => ⟨S96x11008, .f32⟩
  | 5 => ⟨S96x11008, .f32⟩
  | 6 => ⟨S96x11008, .bf16⟩
  | _ => ⟨S96x1x9984, .bf16⟩

abbrev hbmTy (i : Nat) : BufTy := match i / 128 with
  | 0 => hbmTy0_0 i
  | 1 => hbmTy0_1 i
  | _ => ⟨S96x1x9984, .bf16⟩

abbrev bufTy : (tb : Table) → Fin (tcTables nBuf tb) → BufTy
  | .hbm, ⟨i, _⟩ => hbmTy i
  | _, _ => ⟨S96x1x9984, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_c_7 : Ref sig .tc := ⟨.hbm, 39, rfl⟩
abbrev main_v25 : Ref sig .tc := ⟨.hbm, 40, rfl⟩
abbrev main_v26 : Ref sig .tc := ⟨.hbm, 41, rfl⟩
abbrev main_c_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_c_11 : Ref sig .tc := ⟨.hbm, 68, rfl⟩
abbrev main_v49 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_c_13 : Ref sig .tc := ⟨.hbm, 74, rfl⟩
abbrev main_v53 : Ref sig .tc := ⟨.hbm, 75, rfl⟩
abbrev main_v54 : Ref sig .tc := ⟨.hbm, 76, rfl⟩
abbrev main_c_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_15 : Ref sig .tc := ⟨.hbm, 81, rfl⟩
abbrev main_v58 : Ref sig .tc := ⟨.hbm, 82, rfl⟩
abbrev main_v59 : Ref sig .tc := ⟨.hbm, 83, rfl⟩
abbrev main_c_16 : Ref sig .tc := ⟨.hbm, 84, rfl⟩
abbrev main_v60 : Ref sig .tc := ⟨.hbm, 85, rfl⟩
abbrev main_v61 : Ref sig .tc := ⟨.hbm, 86, rfl⟩
abbrev main_c_17 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_18 : Ref sig .tc := ⟨.hbm, 93, rfl⟩
abbrev main_v67 : Ref sig .tc := ⟨.hbm, 94, rfl⟩
abbrev main_v68 : Ref sig .tc := ⟨.hbm, 95, rfl⟩
abbrev main_c_19 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩

abbrev nD : Nat := 1
abbrev τ : Topo := Topo.v7x

variable {F : FTy → Type} [FloatOps F]
-- ==== Proof.BitsRun.lean ====
/-
  The kernel body of `Kernel`, run once at symbolic operands: a grid point other than the first (the scratch `xs` is read
  and kept), and the first point's extra step, which fills `xs` from the activations. The first point is the two in
  sequence (`body_first`).
-/
module

public import proofs.«01_k».proof.Proof.Gen.Kernel.Frame
public import proofs.«01_k».proof.Proof.Gen.Kernel.Skeleton
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's branch condition at grid point `i`: it is the first point. -/
abbrev isFirst (i : grid0.Coords) : Prop :=
  Scalar.cmpi .ne (Scalar.extui (Scalar.cmpi .eq (BitVec.ofNat 32 (i 0).val) 0#32) : BitVec 32) 0#32 = 1#1

/-- The first point's step: the branch of the body that fills `xs`. -/
def fillXs (i : grid0.Coords)
    (M1 : Memref sig .tc .vmem S96x9984 .bf16) (hM1 : M1.IsWhole)
    (M2 : Memref sig .tc .vmem S512x4992 .i8) (hM2 : M2.IsWhole)
    (M3 : Memref sig .tc .vmem S39x512 .i16) (hM3 : M3.IsWhole)
    (M4 : Memref sig .tc .vmem S39x512 .i16) (hM4 : M4.IsWhole)
    (M5 : Memref sig .tc .vmem S312x512 .i8) (hM5 : M5.IsWhole)
    (M6 : Memref sig .tc .vmem S312x512 .i8) (hM6 : M6.IsWhole)
    (M7 : Memref sig .tc .vmem S96x512 .bf16) (hM7 : M7.IsWhole)
    (M8 : Memref sig .tc .vmem S96x9984 .bf16) (hM8 : M8.IsWhole)
    (M9 : Memref sig .tc .vmem S156x512 .i32) (hM9 : M9.IsWhole)
    (M10 : Memref sig .tc .vmem S156x512 .i32) (hM10 : M10.IsWhole) :
    Prog (TpuEff nD τ sig (Elt F) Λ₀ .tc) PUnit := do
  let v ← k0_part31 (F := F) i M1 hM1 M2 hM2 M3 hM3 M4 hM4 M5 hM5 M6 hM6 M7 hM7 M8 hM8 M9 hM9 M10 hM10
  Prog.lift (.store M8 (Rect.unit (s := S96x9984) ![0, 9856] S96x128.size inb_S96x9984_S96x128_0_9856) v Finset.univ (View.stores_vmem h_S96x128 (hM8.storeExact_slice rfl _ packedbf16_S96x9984_S96x128_0_9856) (fun _ => rfl)) (.inl rfl))
  pure ⟨⟩

set_option sl_exec.resultNames true in
/-- What that step leaves in `xs`, with its run: from the activations at `f1` and `xs` at anything. -/
noncomputable def fillRun (c : Dev nD) (i : grid0.Coords)
    (M1 : Memref sig .tc .vmem S96x9984 .bf16) (hM1 : M1.IsWhole)
    (M2 : Memref sig .tc .vmem S512x4992 .i8) (hM2 : M2.IsWhole)
    (M3 : Memref sig .tc .vmem S39x512 .i16) (hM3 : M3.IsWhole)
    (M4 : Memref sig .tc .vmem S39x512 .i16) (hM4 : M4.IsWhole)
    (M5 : Memref sig .tc .vmem S312x512 .i8) (hM5 : M5.IsWhole)
    (M6 : Memref sig .tc .vmem S312x512 .i8) (hM6 : M6.IsWhole)
    (M7 : Memref sig .tc .vmem S96x512 .bf16) (hM7 : M7.IsWhole)
    (M8 : Memref sig .tc .vmem S96x9984 .bf16) (hM8 : M8.IsWhole)
    (M9 : Memref sig .tc .vmem S156x512 .i32) (hM9 : M9.IsWhole)
    (M10 : Memref sig .tc .vmem S156x512 .i32) (hM10 : M10.IsWhole)
    (f1 : Bf (F := F) c M1) :
    { W : Bf (F := F) c M8 //
      ∀ (f8 : Bf (F := F) c M8) (E : Set ℕ) (Q : PUnit → sProp 𝕄),
        iprop(pt c M1 f1 ∗ pt c M8 f8 ∗ (iprop(pt c M1 f1 ∗ pt c M8 W) -∗ Q ⟨⟩))
        ⊢ wp frame (wpE (defs₀ (F := F)) Variants.none c none) E (fillXs (F := F) i M1 hM1 M2 hM2 M3 hM3 M4 hM4 M5 hM5 M6 hM6 M7 hM7 M8 hM8 M9 hM9 M10 hM10) Q } := by
  refine ⟨?_, fun f8 E Q => ?run⟩
  case run =>
    unfold fillXs
    iintro ⟨H1, H8, Hk⟩
    sl_exec_parts!
    sl_step
    iapply Hk
    isplitl [H1]; · iexact H1
    iexact H8

set_option sl_exec.resultNames true in
/-- What the body leaves in the result at a later point, with its run. -/
noncomputable def laterRun (c : Dev nD) (i : grid0.Coords) (hi : ¬ isFirst i)
    (M1 : Memref sig .tc .vmem S96x9984 .bf16) (hM1 : M1.IsWhole)
    (M2 : Memref sig .tc .vmem S512x4992 .i8) (hM2 : M2.IsWhole)
    (M3 : Memref sig .tc .vmem S39x512 .i16) (hM3 : M3.IsWhole)
    (M4 : Memref sig .tc .vmem S39x512 .i16) (hM4 : M4.IsWhole)
    (M5 : Memref sig .tc .vmem S312x512 .i8) (hM5 : M5.IsWhole)
    (M6 : Memref sig .tc .vmem S312x512 .i8) (hM6 : M6.IsWhole)
    (M7 : Memref sig .tc .vmem S96x512 .bf16) (hM7 : M7.IsWhole)
    (M8 : Memref sig .tc .vmem S96x9984 .bf16) (hM8 : M8.IsWhole)
    (M9 : Memref sig .tc .vmem S156x512 .i32) (hM9 : M9.IsWhole)
    (M10 : Memref sig .tc .vmem S156x512 .i32) (hM10 : M10.IsWhole)
    (f2 : Bf (F := F) c M2) (f3 : Bf (F := F) c M3) (f4 : Bf (F := F) c M4) (f5 : Bf (F := F) c M5) (f6 : Bf (F := F) c M6)
    (f8 : Bf (F := F) c M8) :
    { W : Bf (F := F) c M7 //
      ∀ (f7 : Bf (F := F) c M7) (f9 : Bf (F := F) c M9) (f10 : Bf (F := F) c M10) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10
          ∗ (iprop(pt c M2 f2 ∗ pt c M3 f3 ∗ pt c M4 f4 ∗ pt c M5 f5 ∗ pt c M6 f6 ∗ pt c M7 W ∗ pt c M8 f8
              ∗ (∃ f, pt c M9 f) ∗ (∃ f, pt c M10 f)) -∗ Q ⟨⟩))
        ⊢ wp frame (wpE (defs₀ (F := F)) Variants.none c none) E (cc0_q4k_linear (F := F) i M1 hM1 M2 hM2 M3 hM3 M4 hM4 M5 hM5 M6 hM6 M7 hM7 M8 hM8 M9 hM9 M10 hM10) Q } := by
  refine ⟨?_, fun f7 f9 f10 E Q => ?run⟩
  case run =>
    iintro ⟨H2, H3, H4, H5, H6, H7, H8, H9, H10, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10

end Cert.Kernel.Hand

end
-- ==== Proof.BitsFrame.lean ====
/-
  One grid point of `Kernel`: the first is the step that fills `xs` followed by the body of a later point, and
  every later one is the same body. From that, the pipeline's body obligation at every point.
-/
module

public import proofs.«01_k».proof.Proof.BitsRun

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [BitOps F]

local notation "𝕄" => MT nD τ sig Unit (Elt F) ℕ (UR sig nD τ) ℕ

section Program

variable (i j : grid0.Coords)
    (M1 : Memref sig .tc .vmem S96x9984 .bf16) (hM1 : M1.IsWhole)
    (M2 : Memref sig .tc .vmem S512x4992 .i8) (hM2 : M2.IsWhole)
    (M3 : Memref sig .tc .vmem S39x512 .i16) (hM3 : M3.IsWhole)
    (M4 : Memref sig .tc .vmem S39x512 .i16) (hM4 : M4.IsWhole)
    (M5 : Memref sig .tc .vmem S312x512 .i8) (hM5 : M5.IsWhole)
    (M6 : Memref sig .tc .vmem S312x512 .i8) (hM6 : M6.IsWhole)
    (M7 : Memref sig .tc .vmem S96x512 .bf16) (hM7 : M7.IsWhole)
    (M8 : Memref sig .tc .vmem S96x9984 .bf16) (hM8 : M8.IsWhole)
    (M9 : Memref sig .tc .vmem S156x512 .i32) (hM9 : M9.IsWhole)
    (M10 : Memref sig .tc .vmem S156x512 .i32) (hM10 : M10.IsWhole)

/-- The printed part with the branch: taken, it is the filling step and then the part with the branch not taken. -/
theorem part32_first (hi : isFirst i) (hj : ¬ isFirst j) :
    k0_part32 (F := F) i M1 hM1 M2 hM2 M3 hM3 M4 hM4 M5 hM5 M6 hM6 M7 hM7 M8 hM8 M9 hM9 M10 hM10 = (fillXs (F := F) i M1 hM1 M2 hM2 M3 hM3 M4 hM4 M5 hM5 M6 hM6 M7 hM7 M8 hM8 M9 hM9 M10 hM10 >>= fun _ => k0_part32 (F := F) j M1 hM1 M2 hM2 M3 hM3 M4 hM4 M5 hM5 M6 hM6 M7 hM7 M8 hM8 M9 hM9 M10 hM10) := by
  unfold k0_part32 fillXs
  rw [dif_pos hi, dif_neg hj]
  simp only [bind_assoc, pure_bind]

/-- The window of parts that starts the body, likewise. -/
theorem part132_first (hi : isFirst i) (hj : ¬ isFirst j) :
    k0_part132 (F := F) i M1 hM1 M2 hM2 M3 hM3 M4 hM4 M5 hM5 M6 hM6 M7 hM7 M8 hM8 M9 hM9 M10 hM10 = (fillXs (F := F) i M1 hM1 M2 hM2 M3 hM3 M4 hM4 M5 hM5 M6 hM6 M7 hM7 M8 hM8 M9 hM9 M10 hM10 >>= fun _ => k0_part132 (F := F) j M1 hM1 M2 hM2 M3 hM3 M4 hM4 M5 hM5 M6 hM6 M7 hM7 M8 hM8 M9 hM9 M10 hM10) := by
  unfold k0_part132
  rw [part32_first i j M1 hM1 M2 hM2 M3 hM3 M4 hM4 M5 hM5 M6 hM6 M7 hM7 M8 hM8 M9 hM9 M10 hM10 hi hj, bind_assoc]
  rfl

/-- The whole body, likewise. -/
theorem body_first (hi : isFirst i) (hj : ¬ isFirst j) :
    cc0_q4k_linear (F := F) i M1 hM1 M2 hM2 M3 hM3 M4 hM4 M5 hM5 M6 hM6 M7 hM7 M8 hM8 M9 hM9 M10 hM10 = (fillXs (F := F) i M1 hM1 M2 hM2 M3 hM3 M4 hM4 M5 hM5 M6 hM6 M7 hM7 M8 hM8 M9 hM9 M10 hM10 >>= fun _ => cc0_q4k_linear (F := F) j M1 hM1 M2 hM2 M3 hM3 M4 hM4 M5 hM5 M6 hM6 M7 hM7 M8 hM8 M9 hM9 M10 hM10) := by
  unfold cc0_q4k_linear
  rw [part132_first i j M1 hM1 M2 hM2 M3 hM3 M4 hM4 M5 hM5 M6 hM6 M7 hM7 M8 hM8 M9 hM9 M10 hM10 hi hj, bind_assoc]
  rfl

/-- With the branch not taken the body does not depend on the point: its part with the branch, -/
theorem part32_later (hi : ¬ isFirst i) (hj : ¬ isFirst j) : k0_part32 (F := F) i M1 hM1 M2 hM2 M3 hM3 M4 hM4 M5 hM5 M6 hM6 M7 hM7 M8 hM8 M9 hM9 M10 hM10 = k0_part32 (F := F) j M1 hM1 M2 hM2 M3 hM3 M4 hM4 M5 hM5 M6 hM6 M7 hM7 M8 hM8 M9 hM9 M10 hM10 := by
  unfold k0_part32
  rw [dif_neg hi, dif_neg hj]

/-- the window of parts that starts it, -/
theorem part132_later (hi : ¬ isFirst i) (hj : ¬ isFirst j) : k0_part132 (F := F) i M1 hM1 M2 hM2 M3 hM3 M4 hM4 M5 hM5 M6 hM6 M7 hM7 M8 hM8 M9 hM9 M10 hM10 = k0_part132 (F := F) j M1 hM1 M2 hM2 M3 hM3 M4 hM4 M5 hM5 M6 hM6 M7 hM7 M8 hM8 M9 hM9 M10 hM10 := by
  unfold k0_part132
  rw [part32_later i j M1 hM1 M2 hM2 M3 hM3 M4 hM4 M5 hM5 M6 hM6 M7 hM7 M8 hM8 M9 hM9 M10 hM10 hi hj]
  rfl

/-- and the whole of it. -/
theorem body_later (hi : ¬ isFirst i) (hj : ¬ isFirst j) : cc0_q4k_linear (F := F) i M1 hM1 M2 hM2 M3 hM3 M4 hM4 M5 hM5 M6 hM6 M7 hM7 M8 hM8 M9 hM9 M10 hM10 = cc0_q4k_linear (F := F) j M1 hM1 M2 hM2 M3 hM3 M4 hM4 M5 hM5 M6 hM6 M7 hM7 M8 hM8 M9 hM9 M10 hM10 := by
  unfold cc0_q4k_linear
  rw [part132_later i j M1 hM1 M2 hM2 M3 hM3 M4 hM4 M5 hM5 M6 hM6 M7 hM7 M8 hM8 M9 hM9 M10 hM10 hi hj]
  rfl

end Program

/-- A later grid point, fixed once. -/
def later : grid0.Coords := grid0.coords ⟨1, by decide⟩
theorem later_not : ¬ isFirst later := by decide

section Point

variable (c : Dev nD) (i : grid0.Coords)
    (M1 : Memref sig .tc .vmem S96x9984 .bf16) (hM1 : M1.IsWhole)
    (M2 : Memref sig .tc .vmem S512x4992 .i8) (hM2 : M2.IsWhole)
    (M3 : Memref sig .tc .vmem S39x512 .i16) (hM3 : M3.IsWhole)
    (M4 : Memref sig .tc .vmem S39x512 .i16) (hM4 : M4.IsWhole)
    (M5 : Memref sig .tc .vmem S312x512 .i8) (hM5 : M5.IsWhole)
    (M6 : Memref sig .tc .vmem S312x512 .i8) (hM6 : M6.IsWhole)
    (M7 : Memref sig .tc .vmem S96x512 .bf16) (hM7 : M7.IsWhole)
    (M8 : Memref sig .tc .vmem S96x9984 .bf16) (hM8 : M8.IsWhole)
    (M9 : Memref sig .tc .vmem S156x512 .i32) (hM9 : M9.IsWhole)
    (M10 : Memref sig .tc .vmem S156x512 .i32) (hM10 : M10.IsWhole)

/-- What `xs` holds after point `i`'s body: filled from the activations at the first, as found otherwise. -/
def xsAfter (Y1 : Vec F S96x9984 .bf16) (f8 : Bf (F := F) c M8) : Bf (F := F) c M8 :=
  open Classical in
  if isFirst i then (fillRun (F := F) c i M1 hM1 M2 hM2 M3 hM3 M4 hM4 M5 hM5 M6 hM6 M7 hM7 M8 hM8 M9 hM9 M10 hM10 (hM1.unread Y1)).1 else f8

/-- What a point's body leaves in the result's block, from its input blocks and the filled `xs`. -/
def outOf (Y2 : Vec F S512x4992 .i8) (Y3 Y4 : Vec F S39x512 .i16) (Y5 Y6 : Vec F S312x512 .i8) (f8 : Bf (F := F) c M8) : Vec F S96x512 .bf16 :=
  M7.view.read (Elt F) (laterRun (F := F) c later later_not M1 hM1 M2 hM2 M3 hM3 M4 hM4 M5 hM5 M6 hM6 M7 hM7 M8 hM8 M9 hM9 M10 hM10 (hM2.unread Y2) (hM3.unread Y3) (hM4.unread Y4) (hM5.unread Y5) (hM6.unread Y6) f8).1

/-- A memref's buffer, owned at contents `Y`, is held whole at the buffer contents reading `Y`; -/
theorem owns_pt {sp : Space} {S : Shape} {e : EltTy} (M : Memref sig .tc sp S e) (h : M.IsWhole) (Y : S.Idx → Elt F e) :
    owns (c : Thread nD τ) M fullShare Y ⊢ (pt c M (h.unread Y) : sProp 𝕄) := by
  unfold owns pt
  iintro ⟨%f, %hf, H⟩
  obtain rfl := h.eq_unread hf
  rw [h.set_eq_univ]
  iexact H

/-- and held whole at `f` is owned at what `f` reads. -/
theorem pt_owns {sp : Space} {S : Shape} {e : EltTy} (M : Memref sig .tc sp S e) (h : M.IsWhole) (f : Bf (F := F) c M) :
    (pt c M f : sProp 𝕄) ⊢ owns (c : Thread nD τ) M fullShare (M.view.read (Elt F) f) := by
  unfold owns pt
  iintro H
  iexists _; isplitr; · ipureintro; rfl
  rw [h.set_eq_univ]
  iexact H

theorem pt_owns_unread {sp : Space} {S : Shape} {e : EltTy} (M : Memref sig .tc sp S e) (h : M.IsWhole) (Y : S.Idx → Elt F e) :
    (pt c M (h.unread Y) : sProp 𝕄) ⊢ owns (c : Thread nD τ) M fullShare Y := by
  have := pt_owns c M h (h.unread Y)
  rwa [h.read_unread] at this

/-- A later point's body, from its blocks at `Y` and `xs` at `f8`. -/
theorem later_step (Y1 : Vec F S96x9984 .bf16) (Y2 : Vec F S512x4992 .i8) (Y3 : Vec F S39x512 .i16) (Y4 : Vec F S39x512 .i16) (Y5 : Vec F S312x512 .i8) (Y6 : Vec F S312x512 .i8) (Y7 : Vec F S96x512 .bf16) (f8 : Bf (F := F) c M8) (E : Set ℕ) (Q : PUnit → sProp 𝕄) :
    iprop(owns (c : Thread nD τ) M1 fullShare Y1 ∗ owns (c : Thread nD τ) M2 fullShare Y2 ∗ owns (c : Thread nD τ) M3 fullShare Y3 ∗ owns (c : Thread nD τ) M4 fullShare Y4 ∗ owns (c : Thread nD τ) M5 fullShare Y5 ∗ owns (c : Thread nD τ) M6 fullShare Y6 ∗ owns (c : Thread nD τ) M7 fullShare Y7 ∗ pt c M8 f8 ∗ (∃ f, pt c M9 f) ∗ (∃ f, pt c M10 f)
      ∗ (iprop(owns (c : Thread nD τ) M1 fullShare Y1 ∗ owns (c : Thread nD τ) M2 fullShare Y2 ∗ owns (c : Thread nD τ) M3 fullShare Y3 ∗ owns (c : Thread nD τ) M4 fullShare Y4 ∗ owns (c : Thread nD τ) M5 fullShare Y5 ∗ owns (c : Thread nD τ) M6 fullShare Y6 ∗ owns (c : Thread nD τ) M7 fullShare (outOf c M1 hM1 M2 hM2 M3 hM3 M4 hM4 M5 hM5 M6 hM6 M7 hM7 M8 hM8 M9 hM9 M10 hM10 Y2 Y3 Y4 Y5 Y6 f8) ∗ pt c M8 f8 ∗ (∃ f, pt c M9 f) ∗ (∃ f, pt c M10 f)) -∗ Q ⟨⟩))
    ⊢ wp frame (wpE (defs₀ (F := F)) Variants.none c none) E (cc0_q4k_linear (F := F) later M1 hM1 M2 hM2 M3 hM3 M4 hM4 M5 hM5 M6 hM6 M7 hM7 M8 hM8 M9 hM9 M10 hM10) Q := by
  iintro ⟨H1, H2, H3, H4, H5, H6, H7, H8, ⟨%f9, H9⟩, ⟨%f10, H10⟩, Hk⟩
  iapply (laterRun (F := F) c later later_not M1 hM1 M2 hM2 M3 hM3 M4 hM4 M5 hM5 M6 hM6 M7 hM7 M8 hM8 M9 hM9 M10 hM10 (hM2.unread Y2) (hM3.unread Y3) (hM4.unread Y4) (hM5.unread Y5) (hM6.unread Y6) f8).2 (hM7.unread Y7) f9 f10 E Q
  isplitl [H2]; · iapply owns_pt c M2 hM2 Y2; iexact H2
  isplitl [H3]; · iapply owns_pt c M3 hM3 Y3; iexact H3
  isplitl [H4]; · iapply owns_pt c M4 hM4 Y4; iexact H4
  isplitl [H5]; · iapply owns_pt c M5 hM5 Y5; iexact H5
  isplitl [H6]; · iapply owns_pt c M6 hM6 Y6; iexact H6
  isplitl [H7]; · iapply owns_pt c M7 hM7 Y7; iexact H7
  isplitl [H8]; · iexact H8
  isplitl [H9]; · iexact H9
  isplitl [H10]; · iexact H10
  iintro ⟨H2, H3, H4, H5, H6, H7, H8, H9, H10⟩
  iapply Hk
  isplitl [H1]; · iexact H1
  isplitl [H2]; · iapply pt_owns_unread c M2 hM2 Y2; iexact H2
  isplitl [H3]; · iapply pt_owns_unread c M3 hM3 Y3; iexact H3
  isplitl [H4]; · iapply pt_owns_unread c M4 hM4 Y4; iexact H4
  isplitl [H5]; · iapply pt_owns_unread c M5 hM5 Y5; iexact H5
  isplitl [H6]; · iapply pt_owns_unread c M6 hM6 Y6; iexact H6
  isplitl [H7]; · iapply pt_owns c M7 hM7; iexact H7
  isplitl [H8]; · iexact H8
  isplitl [H9]; · iexact H9
  iexact H10

/-- Any point's body, from its blocks at `Y` and `xs` at `f8`. -/
theorem point_step (Y1 : Vec F S96x9984 .bf16) (Y2 : Vec F S512x4992 .i8) (Y3 : Vec F S39x512 .i16) (Y4 : Vec F S39x512 .i16) (Y5 : Vec F S312x512 .i8) (Y6 : Vec F S312x512 .i8) (Y7 : Vec F S96x512 .bf16) (f8 : Bf (F := F) c M8) (E : Set ℕ) (Q : PUnit → sProp 𝕄) :
    iprop(owns (c : Thread nD τ) M1 fullShare Y1 ∗ owns (c : Thread nD τ) M2 fullShare Y2 ∗ owns (c : Thread nD τ) M3 fullShare Y3 ∗ owns (c : Thread nD τ) M4 fullShare Y4 ∗ owns (c : Thread nD τ) M5 fullShare Y5 ∗ owns (c : Thread nD τ) M6 fullShare Y6 ∗ owns (c : Thread nD τ) M7 fullShare Y7 ∗ pt c M8 f8 ∗ (∃ f, pt c M9 f) ∗ (∃ f, pt c M10 f)
      ∗ (iprop(owns (c : Thread nD τ) M1 fullShare Y1 ∗ owns (c : Thread nD τ) M2 fullShare Y2 ∗ owns (c : Thread nD τ) M3 fullShare Y3 ∗ owns (c : Thread nD τ) M4 fullShare Y4 ∗ owns (c : Thread nD τ) M5 fullShare Y5 ∗ owns (c : Thread nD τ) M6 fullShare Y6 ∗ owns (c : Thread nD τ) M7 fullShare (outOf c M1 hM1 M2 hM2 M3 hM3 M4 hM4 M5 hM5 M6 hM6 M7 hM7 M8 hM8 M9 hM9 M10 hM10 Y2 Y3 Y4 Y5 Y6 (xsAfter c i M1 hM1 M2 hM2 M3 hM3 M4 hM4 M5 hM5 M6 hM6 M7 hM7 M8 hM8 M9 hM9 M10 hM10 Y1 f8)) ∗ pt c M8 (xsAfter c i M1 hM1 M2 hM2 M3 hM3 M4 hM4 M5 hM5 M6 hM6 M7 hM7 M8 hM8 M9 hM9 M10 hM10 Y1 f8) ∗ (∃ f, pt c M9 f) ∗ (∃ f, pt c M10 f)) -∗ Q ⟨⟩))
    ⊢ wp frame (wpE (defs₀ (F := F)) Variants.none c none) E (cc0_q4k_linear (F := F) i M1 hM1 M2 hM2 M3 hM3 M4 hM4 M5 hM5 M6 hM6 M7 hM7 M8 hM8 M9 hM9 M10 hM10) Q := by
  by_cases hi : isFirst i
  · rw [body_first i later M1 hM1 M2 hM2 M3 hM3 M4 hM4 M5 hM5 M6 hM6 M7 hM7 M8 hM8 M9 hM9 M10 hM10 hi later_not]
    have hx : xsAfter c i M1 hM1 M2 hM2 M3 hM3 M4 hM4 M5 hM5 M6 hM6 M7 hM7 M8 hM8 M9 hM9 M10 hM10 Y1 f8 = (fillRun (F := F) c i M1 hM1 M2 hM2 M3 hM3 M4 hM4 M5 hM5 M6 hM6 M7 hM7 M8 hM8 M9 hM9 M10 hM10 (hM1.unread Y1)).1 := by
      unfold xsAfter; exact if_pos hi
    rw [hx, wp_bind]
    iintro ⟨H1, H2, H3, H4, H5, H6, H7, H8, H9, H10, Hk⟩
    iapply (fillRun (F := F) c i M1 hM1 M2 hM2 M3 hM3 M4 hM4 M5 hM5 M6 hM6 M7 hM7 M8 hM8 M9 hM9 M10 hM10 (hM1.unread Y1)).2 f8 E
    isplitl [H1]; · iapply owns_pt c M1 hM1 Y1; iexact H1
    isplitl [H8]; · iexact H8
    iintro ⟨H1, H8⟩
    iapply later_step c M1 hM1 M2 hM2 M3 hM3 M4 hM4 M5 hM5 M6 hM6 M7 hM7 M8 hM8 M9 hM9 M10 hM10 Y1 Y2 Y3 Y4 Y5 Y6 Y7 _ E Q
    isplitl [H1]; · iapply pt_owns_unread c M1 hM1 Y1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact Hk
  · rw [body_later i later M1 hM1 M2 hM2 M3 hM3 M4 hM4 M5 hM5 M6 hM6 M7 hM7 M8 hM8 M9 hM9 M10 hM10 hi later_not]
    have hx : xsAfter c i M1 hM1 M2 hM2 M3 hM3 M4 hM4 M5 hM5 M6 hM6 M7 hM7 M8 hM8 M9 hM9 M10 hM10 Y1 f8 = f8 := by unfold xsAfter; exact if_neg hi
    rw [hx]
    exact later_step c M1 hM1 M2 hM2 M3 hM3 M4 hM4 M5 hM5 M6 hM6 M7 hM7 M8 hM8 M9 hM9 M10 hM10 Y1 Y2 Y3 Y4 Y5 Y6 Y7 f8 E Q

end Point

/-! ## The body obligation -/

section Obligation

variable (m : (ℓ : Loc nD τ sig) → Buf (Elt F) ℓ)

/-- The three scratch buffers, whole. -/
abbrev scr0 : Memref sig .tc .vmem S96x9984 .bf16 := Memref.whole cc0_scratch0
abbrev scr1 : Memref sig .tc .vmem S156x512 .i32 := Memref.whole cc0_scratch1
abbrev scr2 : Memref sig .tc .vmem S156x512 .i32 := Memref.whole cc0_scratch2

/-- What the pipeline holds between points: `xs` at contents satisfying `I`, the other two scratch buffers at some contents,
    the generator register at some state. -/
def Inv (c : Dev nD) (I : Bf (F := F) c scr0 → Prop) : sProp 𝕄 :=
  iprop((∃ f : Bf (F := F) c scr0, ⌜I f⌝ ∗ pt c scr0 f) ∗ (∃ f, pt c scr1 f) ∗ (∃ f, pt c scr2 f) ∗ ∃ r, prngReg c r)

/-- With nothing said of `xs` it is the class's invariant. -/
theorem Inv_true (c : Dev nD) : Pipeline.ΦA spec0 c ⊢ (Inv (F := F) c (fun _ => True)) := by
  unfold Inv Pipeline.ΦA
  rw [scopedRest0_eq]
  iintro ⟨⟨⟨%f, H0⟩, H1, H2⟩, Hp⟩
  isplitl [H0]
  · iexists f; isplitr; · ipureintro; trivial
    iexact H0
  isplitl [H1]; · iexact H1
  isplitl [H2]; · iexact H2
  iexact Hp

theorem Inv_forget (c : Dev nD) (I : Bf (F := F) c scr0 → Prop) : (Inv (F := F) c I) ⊢ Pipeline.ΦA spec0 c := by
  unfold Inv Pipeline.ΦA
  rw [scopedRest0_eq]
  iintro ⟨⟨%f, -, H0⟩, H1, H2, Hp⟩
  isplitl [H0 H1 H2]
  · isplitl [H0]; · iexists f; iexact H0
    isplitl [H1]; · iexact H1
    iexact H2
  iexact Hp

/-- The proof data: the arrays as the region finds them; `after` the relation on what the body may leave in the result's
    block; `I` what `xs` satisfies before a point. -/
def rdat (after : (c : Dev nD) → Fin cfg0.N → Vec F S96x512 .bf16 → Prop) (I : (c : Dev nD) → Fin (cfg0.N + 1) → Bf (F := F) c scr0 → Prop)
    (c : Dev nD) : RDat τ (Elt F) Unit ℕ (UR sig nD τ) ℕ cfg0 c where
  A w := V m c (Pipeline.arrRef spec0 w)
  after w t Y X := match w with
    | ⟨0, _⟩ => X = Y
    | ⟨1, _⟩ | ⟨2, _⟩ | ⟨3, _⟩ | ⟨4, _⟩ | ⟨5, _⟩ => True
    | ⟨6, _⟩ => after c t X
  Φ t := Inv c (I c t)
  q _ := fullShare
  owed _ := 0

variable (after : (c : Dev nD) → Fin cfg0.N → Vec F S96x512 .bf16 → Prop) (I : (c : Dev nD) → Fin (cfg0.N + 1) → Bf (F := F) c scr0 → Prop)

theorem Inv_intro (c : Dev nD) (t : Fin (cfg0.N + 1)) (f : Bf (F := F) c scr0) (h : I c t f) :
    iprop(pt c scr0 f ∗ (∃ f, pt c scr1 f) ∗ (∃ f, pt c scr2 f) ∗ ∃ r, prngReg c r) ⊢ (rdat m after I c).Φ t := by
  show _ ⊢ Inv c (I c t)
  unfold Inv
  iintro ⟨H0, H1, H2, Hp⟩
  isplitl [H0]
  · iexists _; isplitr; · ipureintro; exact h
    iexact H0
  isplitl [H1]; · iexact H1
  isplitl [H2]; · iexact H2
  iexact Hp

/-- The pipeline's body obligation, from: at every point, the body's `xs` and result satisfy the data's relations. -/
theorem obligation (c : Dev nD)
    (H : ∀ (t : Fin cfg0.N) (Y : (w : Fin cfg0.W) → (cfg0.win w).block.Idx → Elt F (cfg0.win w).elt), (∀ w, (rdat m after I c).Finds w t (Y w)) →
      ∀ f8 : Bf (F := F) c scr0, I c t.castSucc f8 →
        I c t.succ (xsAfter c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) scr0 (Memref.isWhole_whole _) scr1 (Memref.isWhole_whole _) scr2 (Memref.isWhole_whole _) (Y 0) f8)
        ∧ after c t (outOf c _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) scr0 (Memref.isWhole_whole _) scr1 (Memref.isWhole_whole _) scr2 (Memref.isWhole_whole _) (Y 1) (Y 2) (Y 3) (Y 4) (Y 5)
            (xsAfter c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) scr0 (Memref.isWhole_whole _) scr1 (Memref.isWhole_whole _) scr2 (Memref.isWhole_whole _) (Y 0) f8))) :
    (rdat m after I c).BodyObligation (defs₀ (F := F)) Variants.none () Set.univ := by
  intro t Y hY
  rw [bigSep_W0, bigSep_W0]
  sl_whnfR [defs₀, Defs.onTc]
  show iprop(Inv c (I c t.castSucc) ∗ _ ∗ _) ⊢ _
  unfold Inv
  iintro ⟨⟨⟨%f8, %hf8, H8⟩, H9, H10, Hp⟩, Ho, H1, H2, H3, H4, H5, H6, H7⟩
  have hH := H t Y hY f8 hf8
  iapply point_step c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) scr0 (Memref.isWhole_whole _) scr1 (Memref.isWhole_whole _) scr2 (Memref.isWhole_whole _) (Y 0) (Y 1) (Y 2) (Y 3) (Y 4) (Y 5) (Y 6) f8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  isplitl [H8 H9 H10 Hp]
  · iapply Inv_intro m after I c t.succ _ hH.1
    isplitl [H8]; · iexact H8
    isplitl [H9]; · iexact H9
    isplitl [H10]; · iexact H10
    iexact Hp
  isplitl [Ho]; · iexact Ho
  isplitl [H1]
  · iexists _; isplitr; swap; · iexact H1
    ipureintro; rfl
  isplitl [H2]
  · iexists _; isplitr; swap; · iexact H2
    ipureintro; trivial
  isplitl [H3]
  · iexists _; isplitr; swap; · iexact H3
    ipureintro; trivial
  isplitl [H4]
  · iexists _; isplitr; swap; · iexact H4
    ipureintro; trivial
  isplitl [H5]
  · iexists _; isplitr; swap; · iexact H5
    ipureintro; trivial
  isplitl [H6]
  · iexists _; isplitr; swap; · iexact H6
    ipureintro; trivial
  iexists _; isplitr; swap; · iexact H7
  ipureintro; exact hH.2

/-- The launch: every run ends with each array as the proof data says, every other buffer untouched, every counter zero. -/
theorem launch (ρ : Dev nD → PrngReg) (hI : ∀ c, I c 0 = fun _ => True)
    (hbody : ∀ c, (rdat m after I c).BodyObligation (defs₀ (F := F)) Variants.none () Set.univ)
    (Q' : PUnit × MemSt nD τ sig (Elt F) → Prop)
    (hQ' : ∀ r, Pipeline.RDat.FramePost cfg0 (rdat m after I) (V m) r ∧ r.2.sem = (fun _ => 0) → Q' r) :
    θ_run (defs (F := F)) (onTc (τ := τ) (main (F := F))) ⟨m, fun _ => 0, ρ⟩ Q' :=
  Pipeline.RDat.θ_run_frame_track cfgs 0 launch0 defs₀ Variants.none (rdat m after I) m ρ main hbody
    (fun c w => by unfold Pipeline.RDat.share; simp only [rdat]; split <;> rfl) (fun _ _ => rfl) (V m) (hmain m Variants.none) (fun _ _ => rfl)
    (fun c => by show _ ⊢ Inv c (I c 0); rw [hI]; exact Inv_true c) (fun c => Inv_forget c _) Q' hQ'

end Obligation

/-! ## The frame -/

section Frame

variable (m : (ℓ : Loc nD τ sig) → Buf (Elt F) ℓ)

/-- The post of any of these launches gives the frame claim's: each argument array as launched. -/
theorem args_of (after : (c : Dev nD) → Fin cfg0.N → Vec F S96x512 .bf16 → Prop) (I : (c : Dev nD) → Fin (cfg0.N + 1) → Bf (F := F) c scr0 → Prop)
    (r : PUnit × MemSt nD τ sig (Elt F)) (h : Pipeline.RDat.FramePost cfg0 (rdat m after I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    (Pipeline.RDat.FramePost.arr_in h c 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame claim. -/
theorem frame_quiescent (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  launch m (fun _ _ _ => True) (fun _ _ _ => True) ρ (fun _ => rfl)
    (fun c => obligation m _ _ c fun _ _ _ _ _ => ⟨trivial, trivial⟩) _
    fun r h => ⟨fun c => args_of m _ _ r h.1 c, h.2⟩

end Frame

end Cert.Kernel.Hand

end
-- ==== Proof.IdealRun.lean ====
/-
  The kernel body of `KernelIdeal`, run once at symbolic operands: a grid point other than the first (the scratch `xs` is read
  and kept), and the first point's extra step, which fills `xs` from the activations. The first point is the two in
  sequence (`body_first`).
-/
module

public import proofs.«01_k».proof.Proof.Gen.KernelIdeal.Frame
public import proofs.«01_k».proof.Proof.Gen.KernelIdeal.Skeleton
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body's branch condition at grid point `i`: it is the first point. -/
abbrev isFirst (i : grid0.Coords) : Prop :=
  Scalar.cmpi .ne (Scalar.extui (Scalar.cmpi .eq (BitVec.ofNat 32 (i 0).val) 0#32) : BitVec 32) 0#32 = 1#1

/-- The first point's step: the branch of the body that fills `xs`. -/
def fillXs (i : grid0.Coords)
    (M1 : Memref sig .tc .vmem S96x9984 .bf16) (hM1 : M1.IsWhole)
    (M2 : Memref sig .tc .vmem S512x4992 .i8) (hM2 : M2.IsWhole)
    (M3 : Memref sig .tc .vmem S39x512 .i16) (hM3 : M3.IsWhole)
    (M4 : Memref sig .tc .vmem S39x512 .i16) (hM4 : M4.IsWhole)
    (M5 : Memref sig .tc .vmem S312x512 .i8) (hM5 : M5.IsWhole)
    (M6 : Memref sig .tc .vmem S312x512 .i8) (hM6 : M6.IsWhole)
    (M7 : Memref sig .tc .vmem S96x512 .bf16) (hM7 : M7.IsWhole)
    (M8 : Memref sig .tc .vmem S96x9984 .bf16) (hM8 : M8.IsWhole)
    (M9 : Memref sig .tc .vmem S156x2x512 .bf16) (hM9 : M9.IsWhole)
    (M10 : Memref sig .tc .vmem S156x2x512 .bf16) (hM10 : M10.IsWhole) :
    Prog (TpuEff nD τ sig (Elt F) Λ₀ .tc) PUnit := do
  let v ← k0_part31 (F := F) i M1 hM1 M2 hM2 M3 hM3 M4 hM4 M5 hM5 M6 hM6 M7 hM7 M8 hM8 M9 hM9 M10 hM10
  Prog.lift (.store M8 (Rect.unit (s := S96x9984) ![0, 9856] S96x128.size inb_S96x9984_S96x128_0_9856) v Finset.univ (View.stores_vmem h_S96x128 (hM8.storeExact_slice rfl _ packedbf16_S96x9984_S96x128_0_9856) (fun _ => rfl)) (.inl rfl))
  pure ⟨⟩

set_option sl_exec.resultNames true in
/-- What that step leaves in `xs`, with its run: from the activations at `f1` and `xs` at anything. -/
noncomputable def fillRun (c : Dev nD) (i : grid0.Coords)
    (M1 : Memref sig .tc .vmem S96x9984 .bf16) (hM1 : M1.IsWhole)
    (M2 : Memref sig .tc .vmem S512x4992 .i8) (hM2 : M2.IsWhole)
    (M3 : Memref sig .tc .vmem S39x512 .i16) (hM3 : M3.IsWhole)
    (M4 : Memref sig .tc .vmem S39x512 .i16) (hM4 : M4.IsWhole)
    (M5 : Memref sig .tc .vmem S312x512 .i8) (hM5 : M5.IsWhole)
    (M6 : Memref sig .tc .vmem S312x512 .i8) (hM6 : M6.IsWhole)
    (M7 : Memref sig .tc .vmem S96x512 .bf16) (hM7 : M7.IsWhole)
    (M8 : Memref sig .tc .vmem S96x9984 .bf16) (hM8 : M8.IsWhole)
    (M9 : Memref sig .tc .vmem S156x2x512 .bf16) (hM9 : M9.IsWhole)
    (M10 : Memref sig .tc .vmem S156x2x512 .bf16) (hM10 : M10.IsWhole)
    (f1 : Bf (F := F) c M1) :
    { W : Bf (F := F) c M8 //
      ∀ (f8 : Bf (F := F) c M8) (E : Set ℕ) (Q : PUnit → sProp 𝕄),
        iprop(pt c M1 f1 ∗ pt c M8 f8 ∗ (iprop(pt c M1 f1 ∗ pt c M8 W) -∗ Q ⟨⟩))
        ⊢ wp frame (wpE (defs₀ (F := F)) Variants.none c none) E (fillXs (F := F) i M1 hM1 M2 hM2 M3 hM3 M4 hM4 M5 hM5 M6 hM6 M7 hM7 M8 hM8 M9 hM9 M10 hM10) Q } := by
  refine ⟨?_, fun f8 E Q => ?run⟩
  case run =>
    unfold fillXs
    iintro ⟨H1, H8, Hk⟩
    sl_exec_parts!
    sl_step
    iapply Hk
    isplitl [H1]; · iexact H1
    iexact H8

set_option sl_exec.resultNames true in
/-- What the body leaves in the result at a later point, with its run. -/
noncomputable def laterRun (c : Dev nD) (i : grid0.Coords) (hi : ¬ isFirst i)
    (M1 : Memref sig .tc .vmem S96x9984 .bf16) (hM1 : M1.IsWhole)
    (M2 : Memref sig .tc .vmem S512x4992 .i8) (hM2 : M2.IsWhole)
    (M3 : Memref sig .tc .vmem S39x512 .i16) (hM3 : M3.IsWhole)
    (M4 : Memref sig .tc .vmem S39x512 .i16) (hM4 : M4.IsWhole)
    (M5 : Memref sig .tc .vmem S312x512 .i8) (hM5 : M5.IsWhole)
    (M6 : Memref sig .tc .vmem S312x512 .i8) (hM6 : M6.IsWhole)
    (M7 : Memref sig .tc .vmem S96x512 .bf16) (hM7 : M7.IsWhole)
    (M8 : Memref sig .tc .vmem S96x9984 .bf16) (hM8 : M8.IsWhole)
    (M9 : Memref sig .tc .vmem S156x2x512 .bf16) (hM9 : M9.IsWhole)
    (M10 : Memref sig .tc .vmem S156x2x512 .bf16) (hM10 : M10.IsWhole)
    (f2 : Bf (F := F) c M2) (f3 : Bf (F := F) c M3) (f4 : Bf (F := F) c M4) (f5 : Bf (F := F) c M5) (f6 : Bf (F := F) c M6)
    (f8 : Bf (F := F) c M8) :
    { W : Bf (F := F) c M7 //
      ∀ (f7 : Bf (F := F) c M7) (f9 : Bf (F := F) c M9) (f10 : Bf (F := F) c M10) (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10
          ∗ (iprop(pt c M2 f2 ∗ pt c M3 f3 ∗ pt c M4 f4 ∗ pt c M5 f5 ∗ pt c M6 f6 ∗ pt c M7 W ∗ pt c M8 f8
              ∗ (∃ f, pt c M9 f) ∗ (∃ f, pt c M10 f)) -∗ Q ⟨⟩))
        ⊢ wp frame (wpE (defs₀ (F := F)) Variants.none c none) E (cc0_q4k_linear (F := F) i M1 hM1 M2 hM2 M3 hM3 M4 hM4 M5 hM5 M6 hM6 M7 hM7 M8 hM8 M9 hM9 M10 hM10) Q } := by
  refine ⟨?_, fun f7 f9 f10 E Q => ?run⟩
  case run =>
    iintro ⟨H2, H3, H4, H5, H6, H7, H8, H9, H10, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10

end Cert.KernelIdeal.Hand

end
-- ==== Proof.IdealFrame.lean ====
/-
  One grid point of `KernelIdeal`: the first is the step that fills `xs` followed by the body of a later point, and
  every later one is the same body. From that, the pipeline's body obligation at every point.
-/
module

public import proofs.«01_k».proof.Proof.IdealRun

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

section Program

variable (i j : grid0.Coords)
    (M1 : Memref sig .tc .vmem S96x9984 .bf16) (hM1 : M1.IsWhole)
    (M2 : Memref sig .tc .vmem S512x4992 .i8) (hM2 : M2.IsWhole)
    (M3 : Memref sig .tc .vmem S39x512 .i16) (hM3 : M3.IsWhole)
    (M4 : Memref sig .tc .vmem S39x512 .i16) (hM4 : M4.IsWhole)
    (M5 : Memref sig .tc .vmem S312x512 .i8) (hM5 : M5.IsWhole)
    (M6 : Memref sig .tc .vmem S312x512 .i8) (hM6 : M6.IsWhole)
    (M7 : Memref sig .tc .vmem S96x512 .bf16) (hM7 : M7.IsWhole)
    (M8 : Memref sig .tc .vmem S96x9984 .bf16) (hM8 : M8.IsWhole)
    (M9 : Memref sig .tc .vmem S156x2x512 .bf16) (hM9 : M9.IsWhole)
    (M10 : Memref sig .tc .vmem S156x2x512 .bf16) (hM10 : M10.IsWhole)

/-- The printed part with the branch: taken, it is the filling step and then the part with the branch not taken. -/
theorem part32_first (hi : isFirst i) (hj : ¬ isFirst j) :
    k0_part32 (F := F) i M1 hM1 M2 hM2 M3 hM3 M4 hM4 M5 hM5 M6 hM6 M7 hM7 M8 hM8 M9 hM9 M10 hM10 = (fillXs (F := F) i M1 hM1 M2 hM2 M3 hM3 M4 hM4 M5 hM5 M6 hM6 M7 hM7 M8 hM8 M9 hM9 M10 hM10 >>= fun _ => k0_part32 (F := F) j M1 hM1 M2 hM2 M3 hM3 M4 hM4 M5 hM5 M6 hM6 M7 hM7 M8 hM8 M9 hM9 M10 hM10) := by
  unfold k0_part32 fillXs
  rw [dif_pos hi, dif_neg hj]
  simp only [bind_assoc, pure_bind]

/-- The window of parts that starts the body, likewise. -/
theorem part132_first (hi : isFirst i) (hj : ¬ isFirst j) :
    k0_part132 (F := F) i M1 hM1 M2 hM2 M3 hM3 M4 hM4 M5 hM5 M6 hM6 M7 hM7 M8 hM8 M9 hM9 M10 hM10 = (fillXs (F := F) i M1 hM1 M2 hM2 M3 hM3 M4 hM4 M5 hM5 M6 hM6 M7 hM7 M8 hM8 M9 hM9 M10 hM10 >>= fun _ => k0_part132 (F := F) j M1 hM1 M2 hM2 M3 hM3 M4 hM4 M5 hM5 M6 hM6 M7 hM7 M8 hM8 M9 hM9 M10 hM10) := by
  unfold k0_part132
  rw [part32_first i j M1 hM1 M2 hM2 M3 hM3 M4 hM4 M5 hM5 M6 hM6 M7 hM7 M8 hM8 M9 hM9 M10 hM10 hi hj, bind_assoc]
  rfl

/-- The whole body, likewise. -/
theorem body_first (hi : isFirst i) (hj : ¬ isFirst j) :
    cc0_q4k_linear (F := F) i M1 hM1 M2 hM2 M3 hM3 M4 hM4 M5 hM5 M6 hM6 M7 hM7 M8 hM8 M9 hM9 M10 hM10 = (fillXs (F := F) i M1 hM1 M2 hM2 M3 hM3 M4 hM4 M5 hM5 M6 hM6 M7 hM7 M8 hM8 M9 hM9 M10 hM10 >>= fun _ => cc0_q4k_linear (F := F) j M1 hM1 M2 hM2 M3 hM3 M4 hM4 M5 hM5 M6 hM6 M7 hM7 M8 hM8 M9 hM9 M10 hM10) := by
  unfold cc0_q4k_linear
  rw [part132_first i j M1 hM1 M2 hM2 M3 hM3 M4 hM4 M5 hM5 M6 hM6 M7 hM7 M8 hM8 M9 hM9 M10 hM10 hi hj, bind_assoc]
  rfl

/-- With the branch not taken the body does not depend on the point: its part with the branch, -/
theorem part32_later (hi : ¬ isFirst i) (hj : ¬ isFirst j) : k0_part32 (F := F) i M1 hM1 M2 hM2 M3 hM3 M4 hM4 M5 hM5 M6 hM6 M7 hM7 M8 hM8 M9 hM9 M10 hM10 = k0_part32 (F := F) j M1 hM1 M2 hM2 M3 hM3 M4 hM4 M5 hM5 M6 hM6 M7 hM7 M8 hM8 M9 hM9 M10 hM10 := by
  unfold k0_part32
  rw [dif_neg hi, dif_neg hj]

/-- the window of parts that starts it, -/
theorem part132_later (hi : ¬ isFirst i) (hj : ¬ isFirst j) : k0_part132 (F := F) i M1 hM1 M2 hM2 M3 hM3 M4 hM4 M5 hM5 M6 hM6 M7 hM7 M8 hM8 M9 hM9 M10 hM10 = k0_part132 (F := F) j M1 hM1 M2 hM2 M3 hM3 M4 hM4 M5 hM5 M6 hM6 M7 hM7 M8 hM8 M9 hM9 M10 hM10 := by
  unfold k0_part132
  rw [part32_later i j M1 hM1 M2 hM2 M3 hM3 M4 hM4 M5 hM5 M6 hM6 M7 hM7 M8 hM8 M9 hM9 M10 hM10 hi hj]
  rfl

/-- and the whole of it. -/
theorem body_later (hi : ¬ isFirst i) (hj : ¬ isFirst j) : cc0_q4k_linear (F := F) i M1 hM1 M2 hM2 M3 hM3 M4 hM4 M5 hM5 M6 hM6 M7 hM7 M8 hM8 M9 hM9 M10 hM10 = cc0_q4k_linear (F := F) j M1 hM1 M2 hM2 M3 hM3 M4 hM4 M5 hM5 M6 hM6 M7 hM7 M8 hM8 M9 hM9 M10 hM10 := by
  unfold cc0_q4k_linear
  rw [part132_later i j M1 hM1 M2 hM2 M3 hM3 M4 hM4 M5 hM5 M6 hM6 M7 hM7 M8 hM8 M9 hM9 M10 hM10 hi hj]
  rfl

end Program

/-- A later grid point, fixed once. -/
def later : grid0.Coords := grid0.coords ⟨1, by decide⟩
theorem later_not : ¬ isFirst later := by decide

section Point

variable (c : Dev nD) (i : grid0.Coords)
    (M1 : Memref sig .tc .vmem S96x9984 .bf16) (hM1 : M1.IsWhole)
    (M2 : Memref sig .tc .vmem S512x4992 .i8) (hM2 : M2.IsWhole)
    (M3 : Memref sig .tc .vmem S39x512 .i16) (hM3 : M3.IsWhole)
    (M4 : Memref sig .tc .vmem S39x512 .i16) (hM4 : M4.IsWhole)
    (M5 : Memref sig .tc .vmem S312x512 .i8) (hM5 : M5.IsWhole)
    (M6 : Memref sig .tc .vmem S312x512 .i8) (hM6 : M6.IsWhole)
    (M7 : Memref sig .tc .vmem S96x512 .bf16) (hM7 : M7.IsWhole)
    (M8 : Memref sig .tc .vmem S96x9984 .bf16) (hM8 : M8.IsWhole)
    (M9 : Memref sig .tc .vmem S156x2x512 .bf16) (hM9 : M9.IsWhole)
    (M10 : Memref sig .tc .vmem S156x2x512 .bf16) (hM10 : M10.IsWhole)

/-- What `xs` holds after point `i`'s body: filled from the activations at the first, as found otherwise. -/
def xsAfter (Y1 : Vec F S96x9984 .bf16) (f8 : Bf (F := F) c M8) : Bf (F := F) c M8 :=
  open Classical in
  if isFirst i then (fillRun (F := F) c i M1 hM1 M2 hM2 M3 hM3 M4 hM4 M5 hM5 M6 hM6 M7 hM7 M8 hM8 M9 hM9 M10 hM10 (hM1.unread Y1)).1 else f8

/-- What a point's body leaves in the result's block, from its input blocks and the filled `xs`. -/
def outOf (Y2 : Vec F S512x4992 .i8) (Y3 Y4 : Vec F S39x512 .i16) (Y5 Y6 : Vec F S312x512 .i8) (f8 : Bf (F := F) c M8) : Vec F S96x512 .bf16 :=
  M7.view.read (Elt F) (laterRun (F := F) c later later_not M1 hM1 M2 hM2 M3 hM3 M4 hM4 M5 hM5 M6 hM6 M7 hM7 M8 hM8 M9 hM9 M10 hM10 (hM2.unread Y2) (hM3.unread Y3) (hM4.unread Y4) (hM5.unread Y5) (hM6.unread Y6) f8).1

/-- A memref's buffer, owned at contents `Y`, is held whole at the buffer contents reading `Y`; -/
theorem owns_pt {sp : Space} {S : Shape} {e : EltTy} (M : Memref sig .tc sp S e) (h : M.IsWhole) (Y : S.Idx → Elt F e) :
    owns (c : Thread nD τ) M fullShare Y ⊢ (pt c M (h.unread Y) : sProp 𝕄) := by
  unfold owns pt
  iintro ⟨%f, %hf, H⟩
  obtain rfl := h.eq_unread hf
  rw [h.set_eq_univ]
  iexact H

/-- and held whole at `f` is owned at what `f` reads. -/
theorem pt_owns {sp : Space} {S : Shape} {e : EltTy} (M : Memref sig .tc sp S e) (h : M.IsWhole) (f : Bf (F := F) c M) :
    (pt c M f : sProp 𝕄) ⊢ owns (c : Thread nD τ) M fullShare (M.view.read (Elt F) f) := by
  unfold owns pt
  iintro H
  iexists _; isplitr; · ipureintro; rfl
  rw [h.set_eq_univ]
  iexact H

theorem pt_owns_unread {sp : Space} {S : Shape} {e : EltTy} (M : Memref sig .tc sp S e) (h : M.IsWhole) (Y : S.Idx → Elt F e) :
    (pt c M (h.unread Y) : sProp 𝕄) ⊢ owns (c : Thread nD τ) M fullShare Y := by
  have := pt_owns c M h (h.unread Y)
  rwa [h.read_unread] at this

/-- A later point's body, from its blocks at `Y` and `xs` at `f8`. -/
theorem later_step (Y1 : Vec F S96x9984 .bf16) (Y2 : Vec F S512x4992 .i8) (Y3 : Vec F S39x512 .i16) (Y4 : Vec F S39x512 .i16) (Y5 : Vec F S312x512 .i8) (Y6 : Vec F S312x512 .i8) (Y7 : Vec F S96x512 .bf16) (f8 : Bf (F := F) c M8) (E : Set ℕ) (Q : PUnit → sProp 𝕄) :
    iprop(owns (c : Thread nD τ) M1 fullShare Y1 ∗ owns (c : Thread nD τ) M2 fullShare Y2 ∗ owns (c : Thread nD τ) M3 fullShare Y3 ∗ owns (c : Thread nD τ) M4 fullShare Y4 ∗ owns (c : Thread nD τ) M5 fullShare Y5 ∗ owns (c : Thread nD τ) M6 fullShare Y6 ∗ owns (c : Thread nD τ) M7 fullShare Y7 ∗ pt c M8 f8 ∗ (∃ f, pt c M9 f) ∗ (∃ f, pt c M10 f)
      ∗ (iprop(owns (c : Thread nD τ) M1 fullShare Y1 ∗ owns (c : Thread nD τ) M2 fullShare Y2 ∗ owns (c : Thread nD τ) M3 fullShare Y3 ∗ owns (c : Thread nD τ) M4 fullShare Y4 ∗ owns (c : Thread nD τ) M5 fullShare Y5 ∗ owns (c : Thread nD τ) M6 fullShare Y6 ∗ owns (c : Thread nD τ) M7 fullShare (outOf c M1 hM1 M2 hM2 M3 hM3 M4 hM4 M5 hM5 M6 hM6 M7 hM7 M8 hM8 M9 hM9 M10 hM10 Y2 Y3 Y4 Y5 Y6 f8) ∗ pt c M8 f8 ∗ (∃ f, pt c M9 f) ∗ (∃ f, pt c M10 f)) -∗ Q ⟨⟩))
    ⊢ wp frame (wpE (defs₀ (F := F)) Variants.none c none) E (cc0_q4k_linear (F := F) later M1 hM1 M2 hM2 M3 hM3 M4 hM4 M5 hM5 M6 hM6 M7 hM7 M8 hM8 M9 hM9 M10 hM10) Q := by
  iintro ⟨H1, H2, H3, H4, H5, H6, H7, H8, ⟨%f9, H9⟩, ⟨%f10, H10⟩, Hk⟩
  iapply (laterRun (F := F) c later later_not M1 hM1 M2 hM2 M3 hM3 M4 hM4 M5 hM5 M6 hM6 M7 hM7 M8 hM8 M9 hM9 M10 hM10 (hM2.unread Y2) (hM3.unread Y3) (hM4.unread Y4) (hM5.unread Y5) (hM6.unread Y6) f8).2 (hM7.unread Y7) f9 f10 E Q
  isplitl [H2]; · iapply owns_pt c M2 hM2 Y2; iexact H2
  isplitl [H3]; · iapply owns_pt c M3 hM3 Y3; iexact H3
  isplitl [H4]; · iapply owns_pt c M4 hM4 Y4; iexact H4
  isplitl [H5]; · iapply owns_pt c M5 hM5 Y5; iexact H5
  isplitl [H6]; · iapply owns_pt c M6 hM6 Y6; iexact H6
  isplitl [H7]; · iapply owns_pt c M7 hM7 Y7; iexact H7
  isplitl [H8]; · iexact H8
  isplitl [H9]; · iexact H9
  isplitl [H10]; · iexact H10
  iintro ⟨H2, H3, H4, H5, H6, H7, H8, H9, H10⟩
  iapply Hk
  isplitl [H1]; · iexact H1
  isplitl [H2]; · iapply pt_owns_unread c M2 hM2 Y2; iexact H2
  isplitl [H3]; · iapply pt_owns_unread c M3 hM3 Y3; iexact H3
  isplitl [H4]; · iapply pt_owns_unread c M4 hM4 Y4; iexact H4
  isplitl [H5]; · iapply pt_owns_unread c M5 hM5 Y5; iexact H5
  isplitl [H6]; · iapply pt_owns_unread c M6 hM6 Y6; iexact H6
  isplitl [H7]; · iapply pt_owns c M7 hM7; iexact H7
  isplitl [H8]; · iexact H8
  isplitl [H9]; · iexact H9
  iexact H10

/-- Any point's body, from its blocks at `Y` and `xs` at `f8`. -/
theorem point_step (Y1 : Vec F S96x9984 .bf16) (Y2 : Vec F S512x4992 .i8) (Y3 : Vec F S39x512 .i16) (Y4 : Vec F S39x512 .i16) (Y5 : Vec F S312x512 .i8) (Y6 : Vec F S312x512 .i8) (Y7 : Vec F S96x512 .bf16) (f8 : Bf (F := F) c M8) (E : Set ℕ) (Q : PUnit → sProp 𝕄) :
    iprop(owns (c : Thread nD τ) M1 fullShare Y1 ∗ owns (c : Thread nD τ) M2 fullShare Y2 ∗ owns (c : Thread nD τ) M3 fullShare Y3 ∗ owns (c : Thread nD τ) M4 fullShare Y4 ∗ owns (c : Thread nD τ) M5 fullShare Y5 ∗ owns (c : Thread nD τ) M6 fullShare Y6 ∗ owns (c : Thread nD τ) M7 fullShare Y7 ∗ pt c M8 f8 ∗ (∃ f, pt c M9 f) ∗ (∃ f, pt c M10 f)
      ∗ (iprop(owns (c : Thread nD τ) M1 fullShare Y1 ∗ owns (c : Thread nD τ) M2 fullShare Y2 ∗ owns (c : Thread nD τ) M3 fullShare Y3 ∗ owns (c : Thread nD τ) M4 fullShare Y4 ∗ owns (c : Thread nD τ) M5 fullShare Y5 ∗ owns (c : Thread nD τ) M6 fullShare Y6 ∗ owns (c : Thread nD τ) M7 fullShare (outOf c M1 hM1 M2 hM2 M3 hM3 M4 hM4 M5 hM5 M6 hM6 M7 hM7 M8 hM8 M9 hM9 M10 hM10 Y2 Y3 Y4 Y5 Y6 (xsAfter c i M1 hM1 M2 hM2 M3 hM3 M4 hM4 M5 hM5 M6 hM6 M7 hM7 M8 hM8 M9 hM9 M10 hM10 Y1 f8)) ∗ pt c M8 (xsAfter c i M1 hM1 M2 hM2 M3 hM3 M4 hM4 M5 hM5 M6 hM6 M7 hM7 M8 hM8 M9 hM9 M10 hM10 Y1 f8) ∗ (∃ f, pt c M9 f) ∗ (∃ f, pt c M10 f)) -∗ Q ⟨⟩))
    ⊢ wp frame (wpE (defs₀ (F := F)) Variants.none c none) E (cc0_q4k_linear (F := F) i M1 hM1 M2 hM2 M3 hM3 M4 hM4 M5 hM5 M6 hM6 M7 hM7 M8 hM8 M9 hM9 M10 hM10) Q := by
  by_cases hi : isFirst i
  · rw [body_first i later M1 hM1 M2 hM2 M3 hM3 M4 hM4 M5 hM5 M6 hM6 M7 hM7 M8 hM8 M9 hM9 M10 hM10 hi later_not]
    have hx : xsAfter c i M1 hM1 M2 hM2 M3 hM3 M4 hM4 M5 hM5 M6 hM6 M7 hM7 M8 hM8 M9 hM9 M10 hM10 Y1 f8 = (fillRun (F := F) c i M1 hM1 M2 hM2 M3 hM3 M4 hM4 M5 hM5 M6 hM6 M7 hM7 M8 hM8 M9 hM9 M10 hM10 (hM1.unread Y1)).1 := by
      unfold xsAfter; exact if_pos hi
    rw [hx, wp_bind]
    iintro ⟨H1, H2, H3, H4, H5, H6, H7, H8, H9, H10, Hk⟩
    iapply (fillRun (F := F) c i M1 hM1 M2 hM2 M3 hM3 M4 hM4 M5 hM5 M6 hM6 M7 hM7 M8 hM8 M9 hM9 M10 hM10 (hM1.unread Y1)).2 f8 E
    isplitl [H1]; · iapply owns_pt c M1 hM1 Y1; iexact H1
    isplitl [H8]; · iexact H8
    iintro ⟨H1, H8⟩
    iapply later_step c M1 hM1 M2 hM2 M3 hM3 M4 hM4 M5 hM5 M6 hM6 M7 hM7 M8 hM8 M9 hM9 M10 hM10 Y1 Y2 Y3 Y4 Y5 Y6 Y7 _ E Q
    isplitl [H1]; · iapply pt_owns_unread c M1 hM1 Y1; iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact Hk
  · rw [body_later i later M1 hM1 M2 hM2 M3 hM3 M4 hM4 M5 hM5 M6 hM6 M7 hM7 M8 hM8 M9 hM9 M10 hM10 hi later_not]
    have hx : xsAfter c i M1 hM1 M2 hM2 M3 hM3 M4 hM4 M5 hM5 M6 hM6 M7 hM7 M8 hM8 M9 hM9 M10 hM10 Y1 f8 = f8 := by unfold xsAfter; exact if_neg hi
    rw [hx]
    exact later_step c M1 hM1 M2 hM2 M3 hM3 M4 hM4 M5 hM5 M6 hM6 M7 hM7 M8 hM8 M9 hM9 M10 hM10 Y1 Y2 Y3 Y4 Y5 Y6 Y7 f8 E Q

end Point

/-! ## The body obligation -/

section Obligation

variable (m : (ℓ : Loc nD τ sig) → Buf (Elt F) ℓ)

/-- The three scratch buffers, whole. -/
abbrev scr0 : Memref sig .tc .vmem S96x9984 .bf16 := Memref.whole cc0_scratch0
abbrev scr1 : Memref sig .tc .vmem S156x2x512 .bf16 := Memref.whole cc0_scratch1
abbrev scr2 : Memref sig .tc .vmem S156x2x512 .bf16 := Memref.whole cc0_scratch2

/-- What the pipeline holds between points: `xs` at contents satisfying `I`, the other two scratch buffers at some contents,
    the generator register at some state. -/
def Inv (c : Dev nD) (I : Bf (F := F) c scr0 → Prop) : sProp 𝕄 :=
  iprop((∃ f : Bf (F := F) c scr0, ⌜I f⌝ ∗ pt c scr0 f) ∗ (∃ f, pt c scr1 f) ∗ (∃ f, pt c scr2 f) ∗ ∃ r, prngReg c r)

/-- With nothing said of `xs` it is the class's invariant. -/
theorem Inv_true (c : Dev nD) : Pipeline.ΦA spec0 c ⊢ (Inv (F := F) c (fun _ => True)) := by
  unfold Inv Pipeline.ΦA
  rw [scopedRest0_eq]
  iintro ⟨⟨⟨%f, H0⟩, H1, H2⟩, Hp⟩
  isplitl [H0]
  · iexists f; isplitr; · ipureintro; trivial
    iexact H0
  isplitl [H1]; · iexact H1
  isplitl [H2]; · iexact H2
  iexact Hp

theorem Inv_forget (c : Dev nD) (I : Bf (F := F) c scr0 → Prop) : (Inv (F := F) c I) ⊢ Pipeline.ΦA spec0 c := by
  unfold Inv Pipeline.ΦA
  rw [scopedRest0_eq]
  iintro ⟨⟨%f, -, H0⟩, H1, H2, Hp⟩
  isplitl [H0 H1 H2]
  · isplitl [H0]; · iexists f; iexact H0
    isplitl [H1]; · iexact H1
    iexact H2
  iexact Hp

/-- The proof data: the arrays as the region finds them; `after` the relation on what the body may leave in the result's
    block; `I` what `xs` satisfies before a point. -/
def rdat (after : (c : Dev nD) → Fin cfg0.N → Vec F S96x512 .bf16 → Prop) (I : (c : Dev nD) → Fin (cfg0.N + 1) → Bf (F := F) c scr0 → Prop)
    (c : Dev nD) : RDat τ (Elt F) Unit ℕ (UR sig nD τ) ℕ cfg0 c where
  A w := V m c (Pipeline.arrRef spec0 w)
  after w t Y X := match w with
    | ⟨0, _⟩ => X = Y
    | ⟨1, _⟩ | ⟨2, _⟩ | ⟨3, _⟩ | ⟨4, _⟩ | ⟨5, _⟩ => True
    | ⟨6, _⟩ => after c t X
  Φ t := Inv c (I c t)
  q _ := fullShare
  owed _ := 0

variable (after : (c : Dev nD) → Fin cfg0.N → Vec F S96x512 .bf16 → Prop) (I : (c : Dev nD) → Fin (cfg0.N + 1) → Bf (F := F) c scr0 → Prop)

theorem Inv_intro (c : Dev nD) (t : Fin (cfg0.N + 1)) (f : Bf (F := F) c scr0) (h : I c t f) :
    iprop(pt c scr0 f ∗ (∃ f, pt c scr1 f) ∗ (∃ f, pt c scr2 f) ∗ ∃ r, prngReg c r) ⊢ (rdat m after I c).Φ t := by
  show _ ⊢ Inv c (I c t)
  unfold Inv
  iintro ⟨H0, H1, H2, Hp⟩
  isplitl [H0]
  · iexists _; isplitr; · ipureintro; exact h
    iexact H0
  isplitl [H1]; · iexact H1
  isplitl [H2]; · iexact H2
  iexact Hp

/-- The pipeline's body obligation, from: at every point, the body's `xs` and result satisfy the data's relations. -/
theorem obligation (c : Dev nD)
    (H : ∀ (t : Fin cfg0.N) (Y : (w : Fin cfg0.W) → (cfg0.win w).block.Idx → Elt F (cfg0.win w).elt), (∀ w, (rdat m after I c).Finds w t (Y w)) →
      ∀ f8 : Bf (F := F) c scr0, I c t.castSucc f8 →
        I c t.succ (xsAfter c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) scr0 (Memref.isWhole_whole _) scr1 (Memref.isWhole_whole _) scr2 (Memref.isWhole_whole _) (Y 0) f8)
        ∧ after c t (outOf c _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) scr0 (Memref.isWhole_whole _) scr1 (Memref.isWhole_whole _) scr2 (Memref.isWhole_whole _) (Y 1) (Y 2) (Y 3) (Y 4) (Y 5)
            (xsAfter c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) scr0 (Memref.isWhole_whole _) scr1 (Memref.isWhole_whole _) scr2 (Memref.isWhole_whole _) (Y 0) f8))) :
    (rdat m after I c).BodyObligation (defs₀ (F := F)) Variants.none () Set.univ := by
  intro t Y hY
  rw [bigSep_W0, bigSep_W0]
  sl_whnfR [defs₀, Defs.onTc]
  show iprop(Inv c (I c t.castSucc) ∗ _ ∗ _) ⊢ _
  unfold Inv
  iintro ⟨⟨⟨%f8, %hf8, H8⟩, H9, H10, Hp⟩, Ho, H1, H2, H3, H4, H5, H6, H7⟩
  have hH := H t Y hY f8 hf8
  iapply point_step c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) scr0 (Memref.isWhole_whole _) scr1 (Memref.isWhole_whole _) scr2 (Memref.isWhole_whole _) (Y 0) (Y 1) (Y 2) (Y 3) (Y 4) (Y 5) (Y 6) f8
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H1, H2, H3, H4, H5, H6, H7, H8, H9, H10⟩
  isplitl [H8 H9 H10 Hp]
  · iapply Inv_intro m after I c t.succ _ hH.1
    isplitl [H8]; · iexact H8
    isplitl [H9]; · iexact H9
    isplitl [H10]; · iexact H10
    iexact Hp
  isplitl [Ho]; · iexact Ho
  isplitl [H1]
  · iexists _; isplitr; swap; · iexact H1
    ipureintro; rfl
  isplitl [H2]
  · iexists _; isplitr; swap; · iexact H2
    ipureintro; trivial
  isplitl [H3]
  · iexists _; isplitr; swap; · iexact H3
    ipureintro; trivial
  isplitl [H4]
  · iexists _; isplitr; swap; · iexact H4
    ipureintro; trivial
  isplitl [H5]
  · iexists _; isplitr; swap; · iexact H5
    ipureintro; trivial
  isplitl [H6]
  · iexists _; isplitr; swap; · iexact H6
    ipureintro; trivial
  iexists _; isplitr; swap; · iexact H7
  ipureintro; exact hH.2

/-- The launch: every run ends with each array as the proof data says, every other buffer untouched, every counter zero. -/
theorem launch (ρ : Dev nD → PrngReg) (hI : ∀ c, I c 0 = fun _ => True)
    (hbody : ∀ c, (rdat m after I c).BodyObligation (defs₀ (F := F)) Variants.none () Set.univ)
    (Q' : PUnit × MemSt nD τ sig (Elt F) → Prop)
    (hQ' : ∀ r, Pipeline.RDat.FramePost cfg0 (rdat m after I) (V m) r ∧ r.2.sem = (fun _ => 0) → Q' r) :
    θ_run (defs (F := F)) (onTc (τ := τ) (main (F := F))) ⟨m, fun _ => 0, ρ⟩ Q' :=
  Pipeline.RDat.θ_run_frame_track cfgs 0 launch0 defs₀ Variants.none (rdat m after I) m ρ main hbody
    (fun c w => by unfold Pipeline.RDat.share; simp only [rdat]; split <;> rfl) (fun _ _ => rfl) (V m) (hmain m Variants.none) (fun _ _ => rfl)
    (fun c => by show _ ⊢ Inv c (I c 0); rw [hI]; exact Inv_true c) (fun c => Inv_forget c _) Q' hQ'

end Obligation

/-! ## The frame -/

section Frame

variable (m : (ℓ : Loc nD τ sig) → Buf (Elt F) ℓ)

/-- The post of any of these launches gives the frame claim's: each argument array as launched. -/
theorem args_of (after : (c : Dev nD) → Fin cfg0.N → Vec F S96x512 .bf16 → Prop) (I : (c : Dev nD) → Fin (cfg0.N + 1) → Bf (F := F) c scr0 → Prop)
    (r : PUnit × MemSt nD τ sig (Elt F)) (h : Pipeline.RDat.FramePost cfg0 (rdat m after I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    (Pipeline.RDat.FramePost.arr_in h c 1 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame claim. -/
theorem frame_quiescent (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  launch m (fun _ _ _ => True) (fun _ _ _ => True) ρ (fun _ => rfl)
    (fun c => obligation m _ _ c fun _ _ _ _ _ => ⟨trivial, trivial⟩) _
    fun r h => ⟨fun c => args_of m _ _ r h.1 c, h.2⟩

end Frame

end Cert.KernelIdeal.Hand

end
-- ==== Proof.IdealTile.lean ====
/-
  What the body of `KernelIdeal` computes, said with one definition per step instead of once per tile: the scale and
  offset words of one super-block row, one tile of 256 weight rows with its product, the tiles added up, and one tile
  of the gathered activations. The names the run gives its values are these by unfolding.
-/
module

public import proofs.«01_k».proof.Proof.IdealFrame

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

theorem row_slices : ∀ n : Fin 39, S39x512.Slices ![n.val, 0] S1x512 := by decide
theorem words_inb (n : Fin 39) : ∀ a, (![4 * n.val, 0, 0] : Fin 3 → Nat) a + S4x2x512.size a ≤ S156x2x512.size a := by
  revert n; decide
theorem small_inb (n : Fin 39) : ∀ a, (![8 * n.val, 0] : Fin 2 → Nat) a + S8x512.size a ≤ S312x512.size a := by
  revert n; decide
theorem quants_inb (n : Fin 39) : ∀ a, (![0, 128 * n.val] : Fin 2 → Nat) a + S512x128.size a ≤ S512x4992.size a := by
  revert n; decide
theorem cols_inb (n : Fin 39) : ∀ a, (![0, 256 * n.val] : Fin 2 → Nat) a + S96x256.size a ≤ S96x9984.size a := by
  revert n; decide
theorem lanes_inb (n : Fin 78) : ∀ a, (![0, 128 * n.val] : Fin 2 → Nat) a + S96x128.size a ≤ S96x9984.size a := by
  revert n; decide

/-- Row `n` of the super-block values times the eight small integers under it, rounded, the rows paired. -/
def wordRows (n : Fin 39) (d : FVec F S39x512 .f32) (z : Vec F S8x512 .i8) : Vec F S4x2x512 .bf16 :=
  have w : FVec F S8x512 .bf16 := truncf .bf16 (mulf (broadcastTo S8x512 (extractStridedSlice S1x512 ![n.val, 0] d (row_slices n)) broadcasts_S1x512_S8x512)
    (sitofp .f32 (extui 32 (shapeCast S8x512 z shapeCasts_S8x512_S8x512) natLt_8_32))) bitsLt_bf16_f32
  interleaveRows S4x2x512 (shapeCast S4x1x512 (rowsOfParity 0 S4x512 w bitcasts_S8x512_w16_S4x512_w32) shapeCasts_S4x512_S4x1x512)
    (shapeCast S4x1x512 (rowsOfParity 1 S4x512 w bitcasts_S8x512_w16_S4x512_w32) shapeCasts_S4x512_S4x1x512) bitcasts_S4x2x512_w16_S4x1x512_w32

/-- Four paired rows taken apart into eight. -/
def unpaired (r : Vec F S4x2x512 .bf16) : FVec F S8x512 .bf16 := k0_pay239 r

/-- The nibbles of 32 rows of bytes, low and high in turn. -/
def nibbles (o : Nat) (h : S128x512.Slices ![o, 0] S32x512) (q : IVec S128x512 8) : FVec F S64x512 .bf16 :=
  have b : IVec S32x512 32 := extui 32 (extractStridedSlice S32x512 ![o, 0] q h) natLt_8_32
  sitofp .bf16 (shapeCast S64x512 (concatenate S32x2x512 1 [⟨S32x1x512, shapeCast S32x1x512 (andi b (broadcast S32x512 15#32)) shapeCasts_S32x512_S32x1x512⟩,
    ⟨S32x1x512, shapeCast S32x1x512 (shrsi b (broadcast S32x512 4#32)) shapeCasts_S32x512_S32x1x512⟩] concatenates_S32x1x512_S32x1x512_S32x2x512_d1) shapeCasts_S32x2x512_S64x512)

/-- Two neighbouring rows repeated 32 times. -/
def pairRows (o : Nat) (h : S8x512.Slices ![o, 0] S2x512) (s : FVec F S8x512 .bf16) : FVec F S64x512 .bf16 :=
  shapeCast S64x512 (broadcastTo S32x2x512 (shapeCast S1x2x512 (shapeCast S1x2x512 (extractStridedSlice S2x512 ![o, 0] s h) shapeCasts_S2x512_S1x2x512) shapeCasts_S1x2x512_S1x2x512) broadcasts_S1x2x512_S32x2x512) shapeCasts_S32x2x512_S64x512

/-- 64 rows of weights. -/
def weights (p r : Nat) (hp : S128x512.Slices ![p, 0] S32x512) (hr : S8x512.Slices ![r, 0] S2x512) (q : IVec S128x512 8) (s o : FVec F S8x512 .bf16) : FVec F S64x512 .bf16 :=
  subf (mulf (nibbles p hp q) (pairRows r hr s)) (pairRows r hr o)

/-- 256 rows of weights. -/
def weightTile (q : IVec S128x512 8) (s o : FVec F S8x512 .bf16) : FVec F S256x512 .bf16 :=
  concatenate S256x512 0 [⟨S64x512, weights 0 0 slices_S128x512_o0_0_S32x512 slices_S8x512_o0_0_S2x512 q s o⟩,
    ⟨S64x512, weights 32 2 slices_S128x512_o32_0_S32x512 slices_S8x512_o2_0_S2x512 q s o⟩,
    ⟨S64x512, weights 64 4 slices_S128x512_o64_0_S32x512 slices_S8x512_o4_0_S2x512 q s o⟩,
    ⟨S64x512, weights 96 6 slices_S128x512_o96_0_S32x512 slices_S8x512_o6_0_S2x512 q s o⟩] concatenates_S64x512_S64x512_S64x512_S64x512_S256x512_d0

/-- One tile added to the running sum. -/
def tileStep (acc : FVec F S96x512 .f32) (q : Vec F S512x128 .i8) (s o : Vec F S4x2x512 .bf16) (x : Vec F S96x256 .bf16) : FVec F S96x512 .f32 :=
  addf acc (matmul dot_S96x256_S256x512_S96x512_1_0_0_1_n_n none x
    (weightTile (transpose S128x512 [1, 0] q transposes_S512x128_p1_0_S128x512) (unpaired s) (unpaired o)) (constant S96x512 .f32 0x00000000#32))

/-- The running sum after `n` tiles. -/
def accTo (q : Fin 39 → Vec F S512x128 .i8) (s o : Fin 39 → Vec F S4x2x512 .bf16) (x : Fin 39 → Vec F S96x256 .bf16) : (n : Nat) → n ≤ 39 → FVec F S96x512 .f32
  | 0, _ => k0_pay237
  | n + 1, h => tileStep (accTo q s o x n (Nat.le_of_succ_le h)) (q ⟨n, h⟩) (s ⟨n, h⟩) (o ⟨n, h⟩) (x ⟨n, h⟩)

/-- The stores of the first `n` super-block rows, last first. -/
def wordStores (g : Fin 39 → Vec F S4x2x512 .bf16) : (n : Nat) → n ≤ 39 → List (View.Piece (Elt F) S156x2x512 .bf16)
  | 0, _ => []
  | n + 1, h => ⟨Rect.unit (s := S156x2x512) ![4 * n, 0, 0] S4x2x512.size (words_inb ⟨n, h⟩), g ⟨n, h⟩⟩ :: wordStores g n (Nat.le_of_succ_le h)

/-- One tile of the activations gathered into the order of the weight rows. -/
def gathered (src : IVec S96x128 32) (x : Vec F S96x128 .bf16) : Vec F S96x128 .bf16 := k0_pay78 src x

/-- The stores of the first `n` gathered tiles, last first. -/
def laneStores (g : Fin 78 → Vec F S96x128 .bf16) : (n : Nat) → n ≤ 78 → List (View.Piece (Elt F) S96x9984 .bf16)
  | 0, _ => []
  | n + 1, h => ⟨Rect.unit (s := S96x9984) ![0, 128 * n] S96x128.size (lanes_inb ⟨n, h⟩), g ⟨n, h⟩⟩ :: laneStores g n (Nat.le_of_succ_le h)

variable (c : Dev nD)
    (M1 : Memref sig .tc .vmem S96x9984 .bf16)
    (M2 : Memref sig .tc .vmem S512x4992 .i8)
    (M3 : Memref sig .tc .vmem S39x512 .i16)
    (M4 : Memref sig .tc .vmem S39x512 .i16)
    (M5 : Memref sig .tc .vmem S312x512 .i8)
    (M6 : Memref sig .tc .vmem S312x512 .i8)
    (M8 : Memref sig .tc .vmem S96x9984 .bf16)
    (M9 : Memref sig .tc .vmem S156x2x512 .bf16)
    (M10 : Memref sig .tc .vmem S156x2x512 .bf16)
    (f1 : Bf (F := F) c M1) (f2 : Bf (F := F) c M2) (f3 : Bf (F := F) c M3) (f4 : Bf (F := F) c M4) (f5 : Bf (F := F) c M5) (f6 : Bf (F := F) c M6)
    (f8 : Bf (F := F) c M8)

set_option maxRecDepth 65536

theorem scaleStores_eq : laterRun.sl.H9_39 c M3 M5 f3 f5
    = wordStores (fun n => wordRows n (laterRun.sl.v27 c M3 f3) (M5.view.readAt (Elt F) (Rect.unit (s := S312x512) ![8 * n.val, 0] S8x512.size (small_inb n)).toLoadRect f5)) 39 (Nat.le_refl 39) := rfl

theorem offsetStores_eq : laterRun.sl.H10_39 c M4 M6 f4 f6
    = wordStores (fun n => wordRows n (laterRun.sl.v520 c M4 f4) (M6.view.readAt (Elt F) (Rect.unit (s := S312x512) ![8 * n.val, 0] S8x512.size (small_inb n)).toLoadRect f6)) 39 (Nat.le_refl 39) := rfl

theorem gatherStores_eq : fillRun.sl.H8_78 c M1 f1
    = laneStores (fun n => gathered fillRun.sl.v5056 (M1.view.readAt (Elt F) (Rect.unit (s := S96x9984) ![0, 128 * n.val] S96x128.size (lanes_inb n)).toLoadRect f1)) 78 (Nat.le_refl 78) := rfl

theorem scaleRow_eq : laterRun.sl.v27 c M3 f3 = k0_pay116 (M3.view.readAt (Elt F) (Rect.unit (s := S39x512) ![0, 0] S39x512.size inb_S39x512_S39x512_0_0).toLoadRect f3) := rfl
theorem offsetRow_eq : laterRun.sl.v520 c M4 f4 = k0_pay116 (M4.view.readAt (Elt F) (Rect.unit (s := S39x512) ![0, 0] S39x512.size inb_S39x512_S39x512_0_0).toLoadRect f4) := rfl

theorem result_eq : laterRun.sl.H7_1 c M2 M3 M4 M5 M6 M8 M9 M10 f2 f3 f4 f5 f6 f8
    = [⟨Rect.unit (s := S96x512) ![0, 0] S96x512.size inb_S96x512_S96x512_0_0, truncf .bf16 (accTo
        (fun n => M2.view.readAt (Elt F) (Rect.unit (s := S512x4992) ![0, 128 * n.val] S512x128.size (quants_inb n)).toLoadRect f2)
        (fun n => M9.view.readCov (laterRun.sl.H9_39 c M3 M5 f3 f5) (Rect.unit (s := S156x2x512) ![4 * n.val, 0, 0] S4x2x512.size (words_inb n)).toLoadRect)
        (fun n => M10.view.readCov (laterRun.sl.H10_39 c M4 M6 f4 f6) (Rect.unit (s := S156x2x512) ![4 * n.val, 0, 0] S4x2x512.size (words_inb n)).toLoadRect)
        (fun n => M8.view.readAt (Elt F) (Rect.unit (s := S96x9984) ![0, 256 * n.val] S96x256.size (cols_inb n)).toLoadRect f8) 39 (Nat.le_refl 39)) bitsLt_bf16_f32⟩] := rfl

end Cert.KernelIdeal.Hand

end
-- ==== Proof.Half.lean ====
/-
  A half-precision number read from its bits: the kernel's way, by moving the bits into a single-precision pattern, and
  the reference's, from the fields. Both are the one number `half`.
-/
module

public import Idealize.ShloMosaic.Lib.Pointwise
@[expose] public section
noncomputable section
namespace Cert.Q4
open Idealize.ShloMosaic

/-- The word of a half-precision pattern, as a number below `2^16` and its sign copies. -/
theorem word_toNat (b : BitVec 16) : (b.signExtend 32).toNat = if b.toNat < 32768 then b.toNat else b.toNat + 4294901760 := by
  have h := b.isLt
  rw [BitVec.toNat_signExtend, BitVec.msb_eq_decide, BitVec.toNat_setWidth]
  by_cases c : b.toNat < 32768
  · have : ¬ 32768 ≤ b.toNat := by omega
    simp [c, this]; omega
  · have : 32768 ≤ b.toNat := by omega
    simp [c, this]; omega

theorem low_mod (x : BitVec 32) (k m : Nat) (hk : k < 32) (h : m = 2 ^ k - 1) : (IntOp.andi x (BitVec.ofNat 32 m)).toNat = x.toNat % 2 ^ k := by
  subst h
  have : 2 ^ k ≤ 2 ^ 32 := Nat.pow_le_pow_right (by omega) (by omega)
  have hp : 0 < 2 ^ k := Nat.pow_pos (by omega)
  show (x &&& _).toNat = _
  rw [BitVec.toNat_and, BitVec.toNat_ofNat, Nat.mod_eq_of_lt (by omega), Nat.and_two_pow_sub_one_eq_mod]

theorem field_eq (x : BitVec 32) (u : ArithUnit) : IntOp.andi (IntOp.shrsi u x 10#32) 31#32 = IntOp.andi (x >>> 10) 31#32 := by
  show (if (10#32).toNat < 32 then _ else _) &&& _ = x >>> 10 &&& _
  rw [if_pos (by decide)]
  apply BitVec.eq_of_getLsbD_eq
  intro i hi
  rcases Nat.lt_or_ge i 5 with h | h
  · have : 10 + i < 32 := by omega
    simp [BitVec.sshiftRight', BitVec.getLsbD_sshiftRight, hi, this, BitVec.getElem_sshiftRight]
  · have : (31#32).getLsbD i = false := by interval_cases i <;> rfl
    simp [this]

theorem mask_eq (x : BitVec 32) : IntOp.andi x 31744#32 = IntOp.andi (x >>> 10) 31#32 <<< 10 := by
  show x &&& _ = (x >>> 10 &&& _) <<< 10
  apply BitVec.eq_of_getLsbD_eq
  intro i hi
  rcases Nat.lt_or_ge i 10 with h | h
  · have : (31744#32).getLsbD i = false := by interval_cases i <;> rfl
    simp [this, h]
  · have h2 : 10 + (i - 10) = i := by omega
    have : (31744#32).getLsbD i = (31#32).getLsbD (i - 10) := by interval_cases i <;> rfl
    have h3 : ¬ i < 10 := by omega
    simp only [BitVec.getLsbD_and, BitVec.getLsbD_shiftLeft, BitVec.getLsbD_ushiftRight, this, hi, h2, h3, decide_true, decide_false, Bool.true_and, Bool.not_false]

/-- The exponent field of a half-precision pattern, -/
def exponent (b : BitVec 16) : Nat := b.toNat / 1024 % 32
/-- its fraction field, -/
def fraction (b : BitVec 16) : Nat := b.toNat % 1024
/-- and the number it stands for, every exponent read as a finite one. -/
def half (b : BitVec 16) : EReal :=
  have v : ℝ := ((if exponent b = 0 then fraction b else fraction b + 1024 : Nat) : ℝ) * 2 ^ (max (exponent b) 1 - 1) * 2 ^ (-24 : ℤ)
  ((if 32768 ≤ b.toNat then -v else v : ℝ) : EReal)

theorem fraction_word (b : BitVec 16) : (IntOp.andi (b.signExtend 32) 1023#32).toNat = fraction b := by
  rw [low_mod _ 10 1023 (by decide) rfl, word_toNat, fraction]; split <;> omega

theorem exponent_word (b : BitVec 16) (u : ArithUnit) : (IntOp.andi (IntOp.shrsi u (b.signExtend 32) 10#32) 31#32).toNat = exponent b := by
  rw [field_eq, low_mod _ 5 31 (by decide) rfl, BitVec.toNat_ushiftRight, Nat.shiftRight_eq_div_pow, word_toNat, exponent]; split <;> omega

theorem exponent_lt (b : BitVec 16) : exponent b < 32 := Nat.mod_lt _ (by decide)
theorem fraction_lt (b : BitVec 16) : fraction b < 1024 := Nat.mod_lt _ (by decide)

theorem field_eq_zero (b : BitVec 16) (u : ArithUnit) : IntOp.andi (IntOp.shrsi u (b.signExtend 32) 10#32) 31#32 = 0#32 ↔ exponent b = 0 := by
  rw [← BitVec.toNat_inj, exponent_word]; rfl

theorem mask_eq_zero (b : BitVec 16) : IntOp.andi (b.signExtend 32) 31744#32 = 0#32 ↔ exponent b = 0 := by
  have h := exponent_word b .vector
  rw [field_eq] at h
  have hl := exponent_lt b
  rw [mask_eq, ← BitVec.toNat_inj, BitVec.toNat_shiftLeft, h, Nat.shiftLeft_eq]
  show _ = 0 ↔ _
  omega

theorem word_slt (b : BitVec 16) : (b.signExtend 32).slt 0#32 = decide (32768 ≤ b.toNat) := by
  have hl := b.isLt
  rw [BitVec.slt_zero_eq_msb, BitVec.msb_signExtend, BitVec.msb_eq_decide]
  rfl

/-- A power of two built by shifting. -/
theorem power_word (E : BitVec 32) (h : E.toNat < 32) :
    (IntOp.shli .host 1#32 (IntOp.subi (IntOp.maxsi E 1#32) 1#32)).toNat = 2 ^ (max E.toNat 1 - 1) := by
  have key : ∀ e : Fin 32, (IntOp.shli .host 1#32 (IntOp.subi (IntOp.maxsi (BitVec.ofNat 32 e.val) 1#32) 1#32)).toNat = 2 ^ (max e.val 1 - 1) := by decide +kernel
  have := key ⟨E.toNat, h⟩
  rwa [show BitVec.ofNat 32 (⟨E.toNat, h⟩ : Fin 32).val = E from by simp] at this

theorem ofBits_scale : Ideal.ofBits .f32 864026624#32 = (((2 : ℝ) ^ (-24 : ℤ) : ℝ) : EReal) := by
  simp [Ideal.ofBits, Ideal.ieee, -EReal.coe_mul]; norm_num

theorem ofBits_shift : Ideal.ofBits .f32 2004877312#32 = (((2 : ℝ) ^ (112 : ℤ) : ℝ) : EReal) := by
  simp [Ideal.ofBits, Ideal.ieee, -EReal.coe_mul, -EReal.coe_pow]
  norm_num [-EReal.coe_pow]

/-- The shifted pattern as a number. -/
theorem shifted_toNat (b : BitVec 16) : (IntOp.shli .vector (IntOp.andi (b.signExtend 32) 32767#32) 13#32).toNat = b.toNat % 32768 * 8192 := by
  have h : (IntOp.andi (b.signExtend 32) 32767#32).toNat = b.toNat % 32768 := by
    rw [low_mod _ 15 32767 (by decide) rfl, word_toNat]; split <;> omega
  unfold IntOp.shli
  rw [if_pos (by decide), BitVec.shiftLeft_eq', BitVec.toNat_shiftLeft, h, Nat.shiftLeft_eq]
  show b.toNat % 32768 * 8192 % 4294967296 = _
  omega

/-- The shifted pattern read as a single-precision number, when its exponent is not zero. -/
theorem ofBits_shifted (b : BitVec 16) (h : exponent b ≠ 0) :
    Ideal.ofBits .f32 (IntOp.shli .vector (IntOp.andi (b.signExtend 32) 32767#32) 13#32)
      = (((8192 * (fraction b + 1024) : Nat) * (2 : ℝ) ^ ((exponent b : ℤ) - 127 - 23) : ℝ) : EReal) := by
  have hw := shifted_toNat b
  have hl := b.isLt
  generalize IntOp.shli .vector (IntOp.andi (b.signExtend 32) 32767#32) 13#32 = w at hw ⊢
  have h1 : (w.extractLsb' 31 1) = 0#1 := by
    rw [← BitVec.toNat_inj, BitVec.extractLsb'_toNat, hw, Nat.shiftRight_eq_div_pow]
    show _ / 2147483648 % 2 = 0
    omega
  have h2 : (w.extractLsb' 23 8).toNat = exponent b := by
    rw [BitVec.extractLsb'_toNat, hw, Nat.shiftRight_eq_div_pow, exponent]
    show _ / 8388608 % 256 = _
    omega
  have h3 : (w.extractLsb' 0 23).toNat = 8192 * fraction b := by
    rw [BitVec.extractLsb'_toNat, hw, Nat.shiftRight_eq_div_pow, fraction]
    show _ / 1 % 8388608 = _
    omega
  have hx := exponent_lt b
  show Ideal.ieee 8 23 w = _
  unfold Ideal.ieee
  simp only [h1, h2, h3]
  rw [if_neg (by norm_num; omega), if_neg h]
  congr 1
  norm_num
  left
  ring

/-- The kernel's reading of a pattern is `half`. -/
theorem kernel_half (b : BitVec 16) :
    Scalar.select (IntOp.cmpi .slt (b.signExtend 32) 0#32)
      ((0 : EReal) - Scalar.select (IntOp.cmpi .eq (IntOp.andi (b.signExtend 32) 31744#32) 0#32)
          (FloatOps.sitofp (F := Ideal) FTy.f32 (IntOp.andi (b.signExtend 32) 1023#32) * Ideal.ofBits FTy.f32 864026624#32)
          (Ideal.ofBits FTy.f32 (IntOp.shli .vector (IntOp.andi (b.signExtend 32) 32767#32) 13#32) * Ideal.ofBits FTy.f32 2004877312#32))
      (Scalar.select (IntOp.cmpi .eq (IntOp.andi (b.signExtend 32) 31744#32) 0#32)
          (FloatOps.sitofp (F := Ideal) FTy.f32 (IntOp.andi (b.signExtend 32) 1023#32) * Ideal.ofBits FTy.f32 864026624#32)
          (Ideal.ofBits FTy.f32 (IntOp.shli .vector (IntOp.andi (b.signExtend 32) 32767#32) 13#32) * Ideal.ofBits FTy.f32 2004877312#32))
    = half b := by
  have hs := word_slt b
  have hm := mask_eq_zero b
  have hf := fraction_word b
  have hfl := fraction_lt b
  have mag : Scalar.select (IntOp.cmpi .eq (IntOp.andi (b.signExtend 32) 31744#32) 0#32)
          (FloatOps.sitofp (F := Ideal) FTy.f32 (IntOp.andi (b.signExtend 32) 1023#32) * Ideal.ofBits FTy.f32 864026624#32)
          (Ideal.ofBits FTy.f32 (IntOp.shli .vector (IntOp.andi (b.signExtend 32) 32767#32) 13#32) * Ideal.ofBits FTy.f32 2004877312#32)
      = ((((if exponent b = 0 then fraction b else fraction b + 1024 : Nat) : ℝ) * 2 ^ (max (exponent b) 1 - 1) * 2 ^ (-24 : ℤ) : ℝ) : EReal) := by
    by_cases h : exponent b = 0
    · have e : IntOp.cmpi .eq (IntOp.andi (b.signExtend 32) 31744#32) 0#32 = 1#1 := by
        unfold IntOp.cmpi; simp [hm.mpr h]
      have ei : (IntOp.andi (b.signExtend 32) 1023#32).toInt = (fraction b : ℤ) := by
        rw [BitVec.toInt_eq_toNat_of_lt (by rw [hf]; omega), hf]
      rw [e, ofBits_scale, if_pos h, h]
      show (((IntOp.andi (b.signExtend 32) 1023#32).toInt : ℝ) : EReal) * _ = _
      rw [ei, ← EReal.coe_mul]
      congr 1
      norm_num
    · have e : IntOp.cmpi .eq (IntOp.andi (b.signExtend 32) 31744#32) 0#32 = 0#1 := by
        have h' := mt hm.mp h
        unfold IntOp.cmpi
        show BitVec.ofBool (IntOp.andi (b.signExtend 32) 31744#32 == 0#32) = _
        rw [beq_eq_false_iff_ne.mpr h']; rfl
      rw [e, ofBits_shifted b h, ofBits_shift, if_neg h]
      show _ * _ = _
      rw [← EReal.coe_mul]
      congr 1
      have hx : ((exponent b : ℤ) - 127 - 23) = ((max (exponent b) 1 - 1 : Nat) : ℤ) + (-149) := by omega
      rw [hx, zpow_add₀ (by norm_num), zpow_natCast]
      push_cast
      norm_num
      ring
  rw [mag]
  unfold half
  by_cases h : 32768 ≤ b.toNat
  · have e : IntOp.cmpi .slt (b.signExtend 32) 0#32 = 1#1 := by
      unfold IntOp.cmpi; simp [hs, h]
    rw [e]
    simp only [if_pos h]
    show 0 - _ = _
    rw [zero_sub, EReal.coe_neg]
  · have e : IntOp.cmpi .slt (b.signExtend 32) 0#32 = 0#1 := by
      unfold IntOp.cmpi; simp [hs, h]
    rw [e]
    simp only [if_neg h]
    rfl

/-- The reference's reading of a pattern is `half`. -/
theorem reference_half (b : BitVec 16) :
    Scalar.select (IntOp.cmpi .slt (b.signExtend 32) 0#32)
      (-(FloatOps.sitofp (F := Ideal) FTy.f32
            (Scalar.select (IntOp.cmpi .eq (IntOp.andi (IntOp.shrsi .host (b.signExtend 32) 10#32) 31#32) 0#32)
              (IntOp.andi (b.signExtend 32) 1023#32) (IntOp.addi (IntOp.andi (b.signExtend 32) 1023#32) 1024#32))
          * FloatOps.sitofp (F := Ideal) FTy.f32
            (IntOp.shli .host 1#32 (IntOp.subi (IntOp.maxsi (IntOp.andi (IntOp.shrsi .host (b.signExtend 32) 10#32) 31#32) 1#32) 1#32))
          * Ideal.ofBits FTy.f32 864026624#32))
      (FloatOps.sitofp (F := Ideal) FTy.f32
            (Scalar.select (IntOp.cmpi .eq (IntOp.andi (IntOp.shrsi .host (b.signExtend 32) 10#32) 31#32) 0#32)
              (IntOp.andi (b.signExtend 32) 1023#32) (IntOp.addi (IntOp.andi (b.signExtend 32) 1023#32) 1024#32))
          * FloatOps.sitofp (F := Ideal) FTy.f32
            (IntOp.shli .host 1#32 (IntOp.subi (IntOp.maxsi (IntOp.andi (IntOp.shrsi .host (b.signExtend 32) 10#32) 31#32) 1#32) 1#32))
          * Ideal.ofBits FTy.f32 864026624#32)
    = half b := by
  have hs := word_slt b
  have hm := field_eq_zero b .host
  have hf := fraction_word b
  have hfl := fraction_lt b
  have he := exponent_word b .host
  have hel := exponent_lt b
  have hp := power_word _ (lt_of_eq_of_lt he hel)
  rw [he] at hp
  have hpi : (IntOp.shli .host 1#32 (IntOp.subi (IntOp.maxsi (IntOp.andi (IntOp.shrsi .host (b.signExtend 32) 10#32) 31#32) 1#32) 1#32)).toInt
      = ((2 ^ (max (exponent b) 1 - 1) : Nat) : ℤ) := by
    have : 2 ^ (max (exponent b) 1 - 1) ≤ 2 ^ 30 := Nat.pow_le_pow_right (by decide) (by omega)
    rw [BitVec.toInt_eq_toNat_of_lt (by rw [hp]; omega), hp]
  have hn : (Scalar.select (IntOp.cmpi .eq (IntOp.andi (IntOp.shrsi .host (b.signExtend 32) 10#32) 31#32) 0#32)
              (IntOp.andi (b.signExtend 32) 1023#32) (IntOp.addi (IntOp.andi (b.signExtend 32) 1023#32) 1024#32)).toInt
      = ((if exponent b = 0 then fraction b else fraction b + 1024 : Nat) : ℤ) := by
    by_cases h : exponent b = 0
    · have e : IntOp.cmpi .eq (IntOp.andi (IntOp.shrsi .host (b.signExtend 32) 10#32) 31#32) 0#32 = 1#1 := by
        unfold IntOp.cmpi; simp [hm.mpr h]
      rw [e, if_pos h]
      show (IntOp.andi (b.signExtend 32) 1023#32).toInt = _
      rw [BitVec.toInt_eq_toNat_of_lt (by rw [hf]; omega), hf]
    · have e : IntOp.cmpi .eq (IntOp.andi (IntOp.shrsi .host (b.signExtend 32) 10#32) 31#32) 0#32 = 0#1 := by
        have h' := mt hm.mp h
        unfold IntOp.cmpi
        show BitVec.ofBool (IntOp.andi (IntOp.shrsi .host (b.signExtend 32) 10#32) 31#32 == 0#32) = _
        rw [beq_eq_false_iff_ne.mpr h']; rfl
      have hadd : (IntOp.addi (IntOp.andi (b.signExtend 32) 1023#32) 1024#32).toNat = fraction b + 1024 := by
        show (IntOp.andi (b.signExtend 32) 1023#32 + 1024#32).toNat = _
        rw [BitVec.toNat_add, hf]
        show (fraction b + 1024) % 4294967296 = _
        omega
      rw [e, if_neg h]
      show (IntOp.addi (IntOp.andi (b.signExtend 32) 1023#32) 1024#32).toInt = _
      rw [BitVec.toInt_eq_toNat_of_lt (by rw [hadd]; omega), hadd]
  have mag : FloatOps.sitofp (F := Ideal) FTy.f32
            (Scalar.select (IntOp.cmpi .eq (IntOp.andi (IntOp.shrsi .host (b.signExtend 32) 10#32) 31#32) 0#32)
              (IntOp.andi (b.signExtend 32) 1023#32) (IntOp.addi (IntOp.andi (b.signExtend 32) 1023#32) 1024#32))
          * FloatOps.sitofp (F := Ideal) FTy.f32
            (IntOp.shli .host 1#32 (IntOp.subi (IntOp.maxsi (IntOp.andi (IntOp.shrsi .host (b.signExtend 32) 10#32) 31#32) 1#32) 1#32))
          * Ideal.ofBits FTy.f32 864026624#32
      = ((((if exponent b = 0 then fraction b else fraction b + 1024 : Nat) : ℝ) * 2 ^ (max (exponent b) 1 - 1) * 2 ^ (-24 : ℤ) : ℝ) : EReal) := by
    generalize Scalar.select (IntOp.cmpi .eq (IntOp.andi (IntOp.shrsi .host (b.signExtend 32) 10#32) 31#32) 0#32)
              (IntOp.andi (b.signExtend 32) 1023#32) (IntOp.addi (IntOp.andi (b.signExtend 32) 1023#32) 1024#32) = u at hn ⊢
    generalize IntOp.shli .host 1#32 (IntOp.subi (IntOp.maxsi (IntOp.andi (IntOp.shrsi .host (b.signExtend 32) 10#32) 31#32) 1#32) 1#32) = v at hpi ⊢
    show (((u.toInt : ℝ) : EReal) * ((v.toInt : ℝ) : EReal)) * _ = _
    rw [hn, hpi, ofBits_scale, ← EReal.coe_mul, ← EReal.coe_mul, Int.cast_natCast, Int.cast_natCast, Nat.cast_pow, Nat.cast_ofNat]
  rw [mag]
  unfold half
  by_cases h : 32768 ≤ b.toNat
  · have e : IntOp.cmpi .slt (b.signExtend 32) 0#32 = 1#1 := by
      unfold IntOp.cmpi; simp [hs, h]
    rw [e]
    simp only [if_pos h]
    show -_ = _
    rw [EReal.coe_neg]
  · have e : IntOp.cmpi .slt (b.signExtend 32) 0#32 = 0#1 := by
      unfold IntOp.cmpi; simp [hs, h]
    rw [e]
    simp only [if_neg h]
    rfl

end Cert.Q4
-- ==== Proof.Spec.lean ====
/-
  The product the kernel and the reference compute: 4-bit weights in groups of 64, each half group
  scaled and shifted by its own pair of numbers.
-/
module

public import proofs.«01_k».proof.Proof.Half

@[expose] public section

noncomputable section

namespace Cert.Q4

open Idealize.ShloMosaic
open scoped BigOperators

/-- Half `h` of a byte of two 4-bit quants: its low bits, or its high ones. -/
def quant (h : Fin 2) (b : BitVec 8) : EReal :=
  FloatOps.sitofp (F := Ideal) .bf16
    (if h.val = 0 then IntOp.andi (b.setWidth 32) 15#32 else IntOp.shrsi .vector (b.setWidth 32) 4#32)

/-- A byte as a number. -/
def byte (b : BitVec 8) : EReal := FloatOps.sitofp (F := Ideal) .f32 (b.setWidth 32)

/-- A scale, or an offset: a half-precision pattern times a byte. -/
def affine (b : BitVec 16) (z : BitVec 8) : EReal := half b * byte z

/-- The arrays the product reads. -/
structure Arrays where
  x : (⟨3, ![96, 1, 9984]⟩ : Shape).Idx → EReal
  qs : (⟨2, ![11008, 4992]⟩ : Shape).Idx → BitVec 8
  d : (⟨2, ![11008, 39]⟩ : Shape).Idx → BitVec 16
  dmin : (⟨2, ![11008, 39]⟩ : Shape).Idx → BitVec 16
  sc : (⟨2, ![11008, 312]⟩ : Shape).Idx → BitVec 8
  mn : (⟨2, ![11008, 312]⟩ : Shape).Idx → BitVec 8

/-- The weight at place `j` of half `h` of group `g` of row `o`. -/
def Arrays.weight (a : Arrays) (o : Fin 11008) (g : Fin 156) (h : Fin 2) (j : Fin 32) : EReal :=
  quant h (a.qs (ix2 o ⟨32 * g.val + j.val, by omega⟩))
      * affine (a.d (ix2 o ⟨g.val / 4, by omega⟩)) (a.sc (ix2 o ⟨2 * g.val + h.val, by omega⟩))
    - affine (a.dmin (ix2 o ⟨g.val / 4, by omega⟩)) (a.mn (ix2 o ⟨2 * g.val + h.val, by omega⟩))

/-- One product of the sum. -/
def Arrays.term (a : Arrays) (m : Fin 96) (o : Fin 11008) (g : Fin 156) (h : Fin 2) (j : Fin 32) : EReal :=
  a.x (ix3 m 0 ⟨64 * g.val + 32 * h.val + j.val, by omega⟩) * a.weight o g h j

/-- The product. -/
def Arrays.value (a : Arrays) (m : Fin 96) (o : Fin 11008) : EReal :=
  (∑ g : Fin 156, ∑ j : Fin 32, a.term m o g 0 j) + ∑ g : Fin 156, ∑ j : Fin 32, a.term m o g 1 j

/-- A sum over the 39 tiles of 256 places, each place a half group's quant, is the sum over the groups. -/
theorem sum_tiles {M : Type} [AddCommMonoid M] (f : Fin 156 → Fin 2 → Fin 32 → M) :
    ∑ k : Fin 39, ∑ r : Fin 256, f ⟨4 * k.val + r.val / 64, by omega⟩ ⟨r.val % 2, by omega⟩ ⟨r.val % 64 / 2, by omega⟩
      = (∑ g : Fin 156, ∑ j : Fin 32, f g 0 j) + ∑ g : Fin 156, ∑ j : Fin 32, f g 1 j := by
  have e : ∀ F : Fin 156 → Fin 2 → Fin 32 → M, (∑ g, ∑ j, F g 0 j) + ∑ g, ∑ j, F g 1 j = ∑ p : Fin 156 × Fin 2 × Fin 32, F p.1 p.2.1 p.2.2 := by
    intro F
    rw [Fintype.sum_prod_type, ← Finset.sum_add_distrib]
    refine Finset.sum_congr rfl fun g _ => ?_
    rw [Fintype.sum_prod_type, Fin.sum_univ_two]
  rw [e, ← Fintype.sum_prod_type' (f := fun (k : Fin 39) (r : Fin 256) => f ⟨4 * k.val + r.val / 64, by omega⟩ ⟨r.val % 2, by omega⟩ ⟨r.val % 64 / 2, by omega⟩)]
  refine Fintype.sum_bijective
    (fun p : Fin 39 × Fin 256 => ((⟨4 * p.1.val + p.2.val / 64, by omega⟩, ⟨p.2.val % 2, by omega⟩, ⟨p.2.val % 64 / 2, by omega⟩) : Fin 156 × Fin 2 × Fin 32))
    ⟨?_, ?_⟩ _ _ fun p => rfl
  · rintro ⟨a, b⟩ ⟨c, d⟩ h
    simp only [Prod.mk.injEq, Fin.mk.injEq] at h
    obtain ⟨h1, h2, h3⟩ := h
    ext <;> simp only <;> omega
  · rintro ⟨g, h, j⟩
    refine ⟨(⟨g.val / 4, by omega⟩, ⟨g.val % 4 * 64 + 2 * j.val + h.val, by omega⟩), ?_⟩
    simp only [Prod.mk.injEq]
    refine ⟨Fin.ext ?_, Fin.ext ?_, Fin.ext ?_⟩ <;> simp only <;> omega

end Cert.Q4

end
-- ==== Proof.BlockValue.lean ====
/-
  The body of `KernelIdeal` at the extended reals: what each step puts at one place, and from that the block of the
  result a point leaves, from the blocks it reads.
-/
module

public import proofs.«01_k».proof.Proof.IdealTile
public import proofs.«01_k».proof.Proof.Spec
public import Idealize.ShloMosaic.Lib.Pointwise
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Cert.Q4 (quant byte half affine)
open scoped BigOperators

set_option maxRecDepth 16384

/-- The super-block values are the half-precision numbers of their patterns. -/
theorem halves_at (s : Vec Ideal S39x512 .i16) (k : Fin 39) (j : Fin 512) : k0_pay116 (F := Ideal) s (ix2 k j) = half (s (ix2 k j)) := by
  pointwise [k0_pay116]
  exact Cert.Q4.kernel_half _

/-- A stored scale, or offset. -/
theorem wordRows_at (n : Fin 39) (d : FVec Ideal S39x512 .f32) (z : Vec Ideal S8x512 .i8) (p : Fin 4) (e : Fin 2) (j : Fin 512) :
    wordRows (F := Ideal) n d z (ix3 p e j) = d (ix2 n j) * byte (z (ix2 ⟨2 * p.val + e.val, by omega⟩ j)) := by
  pointwise [wordRows]
  match e with
  | ⟨0, _⟩ => rfl
  | ⟨1, _⟩ => rfl

/-- One weight of 64 rows. -/
theorem weights_at (a : Fin 4) (hp : S128x512.Slices ![32 * a.val, 0] S32x512) (hr : S8x512.Slices ![2 * a.val, 0] S2x512)
    (q : Vec Ideal S512x128 .i8) (s o : Vec Ideal S4x2x512 .bf16) (i : Fin 64) (j : Fin 512) (e : Fin 2) (he : i.val % 2 = e.val) :
    weights (F := Ideal) (32 * a.val) (2 * a.val) hp hr (transpose S128x512 [1, 0] q transposes_S512x128_p1_0_S128x512) (unpaired s) (unpaired o) (ix2 i j)
      = quant e (q (ix2 j ⟨32 * a.val + i.val / 2, by omega⟩)) * s (ix3 a e j) - o (ix3 a e j) := by
  pointwise [weights, nibbles, pairRows, unpaired, k0_pay239]
  have ea : (⟨(2 * a.val + i.val % 2) / 2, by omega⟩ : Fin 4) = a := Fin.ext (by simp only; omega)
  match e, he with
  | ⟨0, _⟩, h =>
    have h : i.val % 2 = 0 := h
    refine congrArg₂ (· - ·) (congrArg₂ (· * ·) ?_ ?_) ?_
    · exact congrArg (FloatOps.sitofp (F := Ideal) FTy.bf16) (dif_pos (by omega))
    · exact (if_pos (by omega)).trans (congrArg (fun t => s (ix3 t 0 j)) ea)
    · exact (if_pos (by omega)).trans (congrArg (fun t => o (ix3 t 0 j)) ea)
  | ⟨1, _⟩, h =>
    have h : i.val % 2 = 1 := h
    refine congrArg₂ (· - ·) (congrArg₂ (· * ·) ?_ ?_) ?_
    · exact congrArg (FloatOps.sitofp (F := Ideal) FTy.bf16) (dif_neg (by omega))
    · exact (if_neg (by omega)).trans (congrArg (fun t => s (ix3 t 1 j)) ea)
    · exact (if_neg (by omega)).trans (congrArg (fun t => o (ix3 t 1 j)) ea)

/-- A weight is named by its byte, its group of the tile and its half. -/
theorem weight_congr (q : Vec Ideal S512x128 .i8) (s o : Vec Ideal S4x2x512 .bf16) (j : Fin 512) {b b' : Fin 128} {a a' : Fin 4} {e e' : Fin 2}
    (hb : b.val = b'.val) (ha : a.val = a'.val) (he : e.val = e'.val) :
    quant e (q (ix2 j b)) * s (ix3 a e j) - o (ix3 a e j) = quant e' (q (ix2 j b')) * s (ix3 a' e' j) - o (ix3 a' e' j) := by
  obtain rfl := Fin.ext hb
  obtain rfl := Fin.ext ha
  obtain rfl := Fin.ext he
  rfl

/-- One place of the tile's product. -/
theorem tileStep_at (acc : FVec Ideal S96x512 .f32) (q : Vec Ideal S512x128 .i8) (s o : Vec Ideal S4x2x512 .bf16) (x : Vec Ideal S96x256 .bf16) (r : Fin 96) (j : Fin 512) :
    tileStep (F := Ideal) acc q s o x (ix2 r j) = acc (ix2 r j) + ∑ k : Fin 256, x (ix2 r k)
      * (quant ⟨k.val % 2, by omega⟩ (q (ix2 j ⟨32 * (k.val / 64) + k.val % 64 / 2, by omega⟩)) * s (ix3 ⟨k.val / 64, by omega⟩ ⟨k.val % 2, by omega⟩ j) - o (ix3 ⟨k.val / 64, by omega⟩ ⟨k.val % 2, by omega⟩ j)) := by
  pointwise [tileStep, dot_S96x256_S256x512_S96x512_1_0_0_1_n_n]
  generalize hw : weightTile (transpose S128x512 [1, 0] q transposes_S512x128_p1_0_S128x512) (unpaired s) (unpaired o) = w
  refine congrArg _ (Finset.sum_congr rfl fun k _ => congrArg _ ?_)
  subst hw
  pointwise [weightTile]
  by_cases h0 : k.val < 64
  · rw [dif_pos h0]
    exact (weights_at 0 slices_S128x512_o0_0_S32x512 slices_S8x512_o0_0_S2x512 q s o ⟨k.val, h0⟩ j ⟨k.val % 2, by omega⟩ rfl).trans
      (weight_congr q s o j (by simp; omega) (by simp; omega) rfl)
  rw [dif_neg h0]
  by_cases h1 : k.val - 64 < 64
  · rw [dif_pos h1]
    exact (weights_at 1 slices_S128x512_o32_0_S32x512 slices_S8x512_o2_0_S2x512 q s o ⟨k.val - 64, h1⟩ j ⟨k.val % 2, by omega⟩ (by simp only; omega)).trans
      (weight_congr q s o j (by simp; omega) (by simp; omega) rfl)
  rw [dif_neg h1]
  by_cases h2 : k.val - 64 - 64 < 64
  · rw [dif_pos h2]
    exact (weights_at 2 slices_S128x512_o64_0_S32x512 slices_S8x512_o4_0_S2x512 q s o ⟨k.val - 64 - 64, h2⟩ j ⟨k.val % 2, by omega⟩ (by simp only; omega)).trans
      (weight_congr q s o j (by simp; omega) (by simp; omega) rfl)
  rw [dif_neg h2]
  exact (weights_at 3 slices_S128x512_o96_0_S32x512 slices_S8x512_o6_0_S2x512 q s o ⟨k.val - 64 - 64 - 64, by omega⟩ j ⟨k.val % 2, by omega⟩ (by simp only; omega)).trans
    (weight_congr q s o j (by simp; omega) (by simp; omega) rfl)

theorem gathered_at (src : IVec S96x128 32) (x : Vec Ideal S96x128 .bf16) (r : Fin 96) (j : Fin 128) (p : Nat) (hp : p < 128)
    (h : src (ix2 r j) = BitVec.ofNat 32 p) :
    gathered (F := Ideal) src x (ix2 r j) = x (ix2 r ⟨p, hp⟩) := by
  pointwise [gathered, k0_pay78]
  simp only [h]
  have key : ∀ p : Fin 128, (Scalar.select (IntOp.cmpi .slt (BitVec.ofNat 32 p.val) 0#32) (IntOp.addi (BitVec.ofNat 32 p.val) 128#32)
      (BitVec.ofNat 32 p.val)).toNat % 128 = p.val := by decide +kernel
  exact congrArg (fun t => x (ix2 r t)) (Fin.ext (key ⟨p, hp⟩))

theorem source_at (r : Fin 96) (j : Fin 128) : fillRun.sl.v5056 (ix2 r j) = BitVec.ofNat 32 (j.val / 64 * 64 + j.val % 2 * 32 + j.val % 64 / 2) := by
  have h : fillRun.sl.v4970 (ix2 r j) = BitVec.ofNat 32 j.val := by
    pointwise [fillRun.sl.v4970]
  pointwise [fillRun.sl.v5056, k0_pay2, k0_pay3, k0_pay4, fillRun.sl.v4994, fillRun.sl.v4971, fillRun.sl.v5012, fillRun.sl.v5013,
    fillRun.sl.v4986, fillRun.sl.v4990, fillRun.sl.v4993, fillRun.sl.v5008, fillRun.sl.v5002, fillRun.sl.v5011, fillRun.sl.v4999,
    fillRun.sl.v4973, fillRun.sl.v4975, fillRun.sl.v4978, fillRun.sl.v4985, fillRun.sl.v5004, fillRun.sl.v5006]
  simp only [h]
  clear h
  revert j
  decide +kernel

/-! ## The stores and what is read back of them -/

theorem readCov_wordStores (M : Memref sig .tc .vmem S156x2x512 .bf16) (g : Fin 39 → Vec Ideal S4x2x512 .bf16) (k : Fin 39) :
    ∀ (n : Nat) (h : n ≤ 39), k.val < n →
      M.view.readCov (wordStores g n h) (Rect.unit (s := S156x2x512) ![4 * k.val, 0, 0] S4x2x512.size (words_inb k)).toLoadRect = g k
  | 0, _, hk => absurd hk (Nat.not_lt_zero _)
  | n + 1, h, hk => by
    unfold wordStores
    by_cases e : k.val = n
    · obtain rfl : k = ⟨n, h⟩ := Fin.ext e
      exact View.readCov_cons_toLoadRect _ _ _ _
    · rw [View.readCov_cons_of_disjoint]
      · exact readCov_wordStores M g k n _ (by omega)
      · refine Rect.unit_disjoint (s := S156x2x512) (inb := words_inb ⟨n, h⟩) 0 (Or.inr ?_)
        show 4 * k.val + 4 ≤ 4 * n
        omega

theorem canon_laneStores (g : Fin 78 → Vec Ideal S96x128 .bf16) (r : Fin 96) (p : Fin 9984) :
    ∀ (n : Nat) (h : n ≤ 78), p.val / 128 < n →
      View.canon (laneStores g n h) (ix2 r p) = g ⟨p.val / 128, by omega⟩ (ix2 r ⟨p.val % 128, by omega⟩)
  | 0, _, hk => absurd hk (Nat.not_lt_zero _)
  | n + 1, h, hk => by
    unfold laneStores
    by_cases e : p.val / 128 = n
    · have ei : (ix2 r p : S96x9984.Idx) = (Rect.unit (s := S96x9984) ![0, 128 * n] S96x128.size (lanes_inb ⟨n, h⟩)).emb (ix2 r ⟨p.val % 128, by omega⟩) := by
        funext a
        match a with
        | ⟨0, _⟩ => exact Fin.ext (by show r.val = 0 + 1 * r.val; omega)
        | ⟨1, _⟩ => exact Fin.ext (by show p.val = 128 * n + 1 * (p.val % 128); omega)
      rw [ei, View.canon_cons_emb]
      subst e
      rfl
    · rw [View.canon_cons_of_not_mem]
      · exact canon_laneStores g r p n _ (by omega)
      · intro hm
        have := (Rect.mem_set_unit (s := S96x9984) (inb := lanes_inb ⟨n, h⟩).mp hm 1).1
        have : 128 * n ≤ p.val := this
        omega

/-- A place of a load through a rectangle of unit strides. -/
theorem load_at {A B C D p q : Nat} {e : EltTy} (M : Memref sig .tc .vmem (⟨2, ![A, B]⟩ : Shape) e)
    (inb : ∀ a, (![p, q] : Fin 2 → Nat) a + (![C, D] : Fin 2 → Nat) a ≤ (![A, B] : Fin 2 → Nat) a) (f : M.view.ty.Contents (Elt Ideal)) (i : Fin C) (j : Fin D)
    (i' : Fin A) (j' : Fin B) (hi : p + i.val = i'.val) (hj : q + j.val = j'.val) :
    M.view.readAt (Elt Ideal) (Rect.unit (s := ⟨2, ![A, B]⟩) ![p, q] ![C, D] inb).toLoadRect f (ix2 i j) = M.view.read (Elt Ideal) f (ix2 i' j') := by
  rw [View.readAt_eq_ld]
  refine congrArg (M.view.read (Elt Ideal) f) ?_
  funext a
  match a with
  | ⟨0, _⟩ => exact Fin.ext (by show p + 1 * i.val = i'.val; omega)
  | ⟨1, _⟩ => exact Fin.ext (by show q + 1 * j.val = j'.val; omega)

/-- Where a weight row's activation comes from, inside its 64 columns. -/
def source (p : Fin 9984) : Fin 9984 := ⟨p.val / 64 * 64 + p.val % 2 * 32 + p.val % 64 / 2, by omega⟩

section Blocks

variable (c : Dev nD) (i : grid0.Coords)
    (M1 : Memref sig .tc .vmem S96x9984 .bf16) (hM1 : M1.IsWhole)
    (M2 : Memref sig .tc .vmem S512x4992 .i8) (hM2 : M2.IsWhole)
    (M3 : Memref sig .tc .vmem S39x512 .i16) (hM3 : M3.IsWhole)
    (M4 : Memref sig .tc .vmem S39x512 .i16) (hM4 : M4.IsWhole)
    (M5 : Memref sig .tc .vmem S312x512 .i8) (hM5 : M5.IsWhole)
    (M6 : Memref sig .tc .vmem S312x512 .i8) (hM6 : M6.IsWhole)
    (M7 : Memref sig .tc .vmem S96x512 .bf16) (hM7 : M7.IsWhole)
    (M8 : Memref sig .tc .vmem S96x9984 .bf16) (hM8 : M8.IsWhole)
    (M9 : Memref sig .tc .vmem S156x2x512 .bf16) (hM9 : M9.IsWhole)
    (M10 : Memref sig .tc .vmem S156x2x512 .bf16) (hM10 : M10.IsWhole)

/-- The filling step leaves the gathered activations. -/
theorem filled_at (Y1 : Vec Ideal S96x9984 .bf16) (r : Fin 96) (p : Fin 9984) :
    M8.view.read (Elt Ideal) (fillRun (F := Ideal) c i M1 hM1 M2 hM2 M3 hM3 M4 hM4 M5 hM5 M6 hM6 M7 hM7 M8 hM8 M9 hM9 M10 hM10 (hM1.unread Y1)).1 (ix2 r p)
      = Y1 (ix2 r (source p)) := by
  show M8.view.read (Elt Ideal) (M8.view.writes (Elt Ideal) M8.view.junk (fillRun.sl.H8_78 c M1 (hM1.unread Y1))) (ix2 r p) = _
  rw [View.read_writes_junk_eq_canon, gatherStores_eq, canon_laneStores _ r p 78 _ (by omega)]
  rw [gathered_at _ _ r ⟨p.val % 128, by omega⟩ _ (by simp only; omega) (source_at r ⟨p.val % 128, by omega⟩)]
  rw [load_at M1 _ _ r _ r (source ⟨p.val, p.isLt⟩) (by omega) (by simp only [source]; omega), hM1.read_unread]

/-- One product of a tile. -/
def tileTerm (Y2 : Vec Ideal S512x4992 .i8) (Y3 Y4 : Vec Ideal S39x512 .i16) (Y5 Y6 : Vec Ideal S312x512 .i8) (xs : Vec Ideal S96x9984 .bf16)
    (m : Fin 96) (j : Fin 512) (k : Fin 39) (r : Fin 256) : EReal :=
  xs (ix2 m ⟨256 * k.val + r.val, by omega⟩)
    * (quant ⟨r.val % 2, by omega⟩ (Y2 (ix2 j ⟨128 * k.val + (32 * (r.val / 64) + r.val % 64 / 2), by omega⟩))
        * affine (Y3 (ix2 k j)) (Y5 (ix2 ⟨8 * k.val + (2 * (r.val / 64) + r.val % 2), by omega⟩ j))
      - affine (Y4 (ix2 k j)) (Y6 (ix2 ⟨8 * k.val + (2 * (r.val / 64) + r.val % 2), by omega⟩ j)))

theorem accTo_at (q : Fin 39 → Vec Ideal S512x128 .i8) (s o : Fin 39 → Vec Ideal S4x2x512 .bf16) (x : Fin 39 → Vec Ideal S96x256 .bf16) (m : Fin 96) (j : Fin 512) :
    ∀ (n : Nat) (h : n ≤ 39), accTo (F := Ideal) q s o x n h (ix2 m j) = ∑ k : Fin n, ∑ r : Fin 256, x (k.castLE h) (ix2 m r)
      * (quant ⟨r.val % 2, by omega⟩ (q (k.castLE h) (ix2 j ⟨32 * (r.val / 64) + r.val % 64 / 2, by omega⟩)) * s (k.castLE h) (ix3 ⟨r.val / 64, by omega⟩ ⟨r.val % 2, by omega⟩ j)
        - o (k.castLE h) (ix3 ⟨r.val / 64, by omega⟩ ⟨r.val % 2, by omega⟩ j))
  | 0, _ => by
    unfold accTo
    pointwise [k0_pay237]
    simp
  | n + 1, h => by
    unfold accTo
    rw [tileStep_at, accTo_at q s o x m j n _]
    refine Eq.trans ?_ (Fin.sum_univ_castSucc (M := EReal) _).symm
    rfl

theorem accTo_all (q : Fin 39 → Vec Ideal S512x128 .i8) (s o : Fin 39 → Vec Ideal S4x2x512 .bf16) (x : Fin 39 → Vec Ideal S96x256 .bf16) (m : Fin 96) (j : Fin 512) :
    accTo (F := Ideal) q s o x 39 (Nat.le_refl 39) (ix2 m j) = ∑ k : Fin 39, ∑ r : Fin 256, x k (ix2 m r)
      * (quant ⟨r.val % 2, by omega⟩ (q k (ix2 j ⟨32 * (r.val / 64) + r.val % 64 / 2, by omega⟩)) * s k (ix3 ⟨r.val / 64, by omega⟩ ⟨r.val % 2, by omega⟩ j)
        - o k (ix3 ⟨r.val / 64, by omega⟩ ⟨r.val % 2, by omega⟩ j)) :=
  accTo_at q s o x m j 39 (Nat.le_refl 39)

/-- What the run leaves in the result's block is its list of stores. -/
theorem outOf_stores (Y2 : Vec Ideal S512x4992 .i8) (Y3 Y4 : Vec Ideal S39x512 .i16) (Y5 Y6 : Vec Ideal S312x512 .i8) (f8 : Bf (F := Ideal) c M8) :
    outOf (F := Ideal) c M1 hM1 M2 hM2 M3 hM3 M4 hM4 M5 hM5 M6 hM6 M7 hM7 M8 hM8 M9 hM9 M10 hM10 Y2 Y3 Y4 Y5 Y6 f8
      = M7.view.read (Elt Ideal) (M7.view.writes (Elt Ideal) M7.view.junk (laterRun.sl.H7_1 c M2 M3 M4 M5 M6 M8 M9 M10 (hM2.unread Y2) (hM3.unread Y3) (hM4.unread Y4) (hM5.unread Y5) (hM6.unread Y6) f8)) := by
  unfold outOf laterRun
  rfl

/-- The block of the result a point leaves. -/
theorem out_at (Y2 : Vec Ideal S512x4992 .i8) (Y3 Y4 : Vec Ideal S39x512 .i16) (Y5 Y6 : Vec Ideal S312x512 .i8) (f8 : Bf (F := Ideal) c M8) (m : Fin 96) (j : Fin 512) :
    outOf (F := Ideal) c M1 hM1 M2 hM2 M3 hM3 M4 hM4 M5 hM5 M6 hM6 M7 hM7 M8 hM8 M9 hM9 M10 hM10 Y2 Y3 Y4 Y5 Y6 f8 (ix2 m j)
      = ∑ k : Fin 39, ∑ r : Fin 256, tileTerm Y2 Y3 Y4 Y5 Y6 (M8.view.read (Elt Ideal) f8) m j k r := by
  rw [outOf_stores]
  rw [View.read_writes_junk_eq_canon, result_eq, View.canon_cons_unit_lit' _ _ _ (by decide)]
  show accTo (F := Ideal) _ _ _ _ 39 _ (ix2 m j) = _
  rw [accTo_all]
  refine Finset.sum_congr rfl fun k _ => Finset.sum_congr rfl fun r _ => ?_
  beta_reduce
  rw [scaleStores_eq, offsetStores_eq, readCov_wordStores M9 _ k 39 _ k.isLt, readCov_wordStores M10 _ k 39 _ k.isLt, wordRows_at, wordRows_at, scaleRow_eq, offsetRow_eq, halves_at, halves_at]
  rw [load_at M8 _ _ m r m ⟨256 * k.val + r.val, by omega⟩ (by omega) rfl,
    load_at M2 _ _ j _ j ⟨128 * k.val + (32 * (r.val / 64) + r.val % 64 / 2), by omega⟩ (by omega) rfl,
    load_at M3 _ _ k j k j (by omega) (by omega), load_at M4 _ _ k j k j (by omega) (by omega),
    load_at M5 _ _ _ j ⟨8 * k.val + (2 * (r.val / 64) + r.val % 2), by omega⟩ j rfl (by omega),
    load_at M6 _ _ _ j ⟨8 * k.val + (2 * (r.val / 64) + r.val % 2), by omega⟩ j rfl (by omega),
    hM2.read_unread, hM3.read_unread, hM4.read_unread, hM5.read_unread, hM6.read_unread]
  rfl

end Blocks

end Cert.KernelIdeal.Hand
end
-- ==== Proof.IdealValue.lean ====
/-
  The value of the kernel's idealization: what each grid point finds in its blocks, what it leaves in its
  block of the result, and so what the result holds after the launch.
-/
module

public import proofs.«01_k».proof.Proof.BlockValue
public import Idealize.ShloMosaic.Lib.Pipeline.ArrRel
public import Idealize.ShloMosaic.Lib.Claim

@[expose] public section
noncomputable section
namespace Cert.KernelIdeal.Hand

open Cert.KernelIdeal Cert.KernelIdeal.Gen
open Idealize.ShloMosaic Idealize.ShloMosaic.TcCoe Idealize.ShloMosaic.Tactic
open Idealize.ShloMosaic.Pipeline (RDat Cfg Window)
open Cert.Q4 (quant byte half affine)
open scoped BigOperators

set_option maxRecDepth 16384

variable (m : (ℓ : Loc nD τ sig) → Buf (Elt Ideal) ℓ)

theorem idx0 : ∀ t : Fin grid0.N, win0_0.index t = ![0, 0] := by decide +kernel
theorem idx1 : ∀ t : Fin grid0.N, win0_1.index t = ![t.val, 0] := by decide +kernel
theorem idx2 : ∀ t : Fin grid0.N, win0_2.index t = ![0, t.val] := by decide +kernel
theorem idx3 : ∀ t : Fin grid0.N, win0_3.index t = ![0, t.val] := by decide +kernel
theorem idx4 : ∀ t : Fin grid0.N, win0_4.index t = ![0, t.val] := by decide +kernel
theorem idx5 : ∀ t : Fin grid0.N, win0_5.index t = ![0, t.val] := by decide +kernel
theorem idx6 : ∀ t : Fin grid0.N, win0_6.index t = ![0, t.val] := by decide +kernel

theorem size0 : ∀ t : Fin grid0.N, win0_0.xsize (grid0.coords t) = ![96, 9984] := by decide +kernel
theorem size1 : ∀ t : Fin grid0.N, win0_1.xsize (grid0.coords t) = ![min 512 (11008 - 512 * t.val), 4992] := by decide +kernel
theorem size2 : ∀ t : Fin grid0.N, win0_2.xsize (grid0.coords t) = ![39, min 512 (11008 - 512 * t.val)] := by decide +kernel
theorem size3 : ∀ t : Fin grid0.N, win0_3.xsize (grid0.coords t) = ![39, min 512 (11008 - 512 * t.val)] := by decide +kernel
theorem size4 : ∀ t : Fin grid0.N, win0_4.xsize (grid0.coords t) = ![312, min 512 (11008 - 512 * t.val)] := by decide +kernel
theorem size5 : ∀ t : Fin grid0.N, win0_5.xsize (grid0.coords t) = ![312, min 512 (11008 - 512 * t.val)] := by decide +kernel
theorem size6 : ∀ t : Fin grid0.N, win0_6.xsize (grid0.coords t) = ![96, min 512 (11008 - 512 * t.val)] := by decide +kernel

/-- A pair of indices below a pair of sizes. -/
theorem below {n k a b : ℕ} (r : Fin n) (s : Fin k) (e : Fin 2 → ℕ) (he : e = ![a, b]) (hr : r.val < a) (hs : s.val < b) :
    ∀ x : Fin 2, ((ix2 r s : (⟨2, ![n, k]⟩ : Shape).Idx) x).val < e x := by
  subst he
  intro x
  match x with
  | ⟨0, _⟩ => exact hr
  | ⟨1, _⟩ => exact hs

variable (after : (c : Dev nD) → Fin cfg0.N → Vec Ideal S96x512 .bf16 → Prop) (I : (c : Dev nD) → Fin (cfg0.N + 1) → Bf (F := Ideal) c scr0 → Prop) (c : Dev nD)

/-- What a body finds in a staging buffer just fetched, at an index inside the array, is the array there. -/
theorem found_at (w : Fin cfg0.W) (t : Fin cfg0.N) (Y : (cfg0.win w).block.Idx → Elt Ideal (cfg0.win w).elt)
    (h : (rdat m after I c).Finds w t Y) (hf : (cfg0.win w).fetch t = true) (y : (cfg0.win w).block.Idx)
    (hy : ∀ a, (y a).val < (cfg0.win w).xsize (grid0.coords t) a) :
    Y y = ((cfg0.win w).blk t).view.read (Elt Ideal) (V m c (Pipeline.arrRef spec0 w)) (fun a => ⟨(y a).val, hy a⟩) := by
  obtain ⟨d, rfl⟩ := ((rdat m after I c).finds_of_fetch hf _).mp h
  exact (cfg0.win w).fill_xinj (grid0.coords t) d _ (fun a => ⟨(y a).val, hy a⟩)

/-- The quants a point finds. -/
theorem q_at (t : Fin cfg0.N) (Y : Vec Ideal S512x4992 .i8) (h : (rdat m after I c).Finds 1 t Y) (j : Fin 512) (p : Fin 4992) (o : Fin 11008) (ho : 512 * t.val + j.val = o.val) :
    Y (ix2 j p) = m ((c.tc : Thread nD τ).loc main_arg1) (ix2 o p) := by
  refine (found_at m after I c 1 t Y h (fetch0_1 t) (ix2 j p) (below j p _ (size1 t) (by omega) p.isLt)).trans ?_
  show ((cfg0.win 1).blk t).view.read (Elt Ideal) (V m c main_arg1) _ = _
  rw [V_main_arg1]
  blk_simp
  refine congrArg _ (funext fun a => Fin.ext ?_)
  match a with
  | ⟨0, _⟩ => blk_simp [idx1]; show t.val * 512 + j.val = o.val; omega
  | ⟨1, _⟩ => blk_simp [idx1]

/-- The scales of the scales a point finds, one row a tile. -/
theorem d_at (t : Fin cfg0.N) (Y : Vec Ideal S39x512 .i16) (h : (rdat m after I c).Finds 2 t Y) (k : Fin 39) (j : Fin 512) (o : Fin 11008) (ho : 512 * t.val + j.val = o.val) :
    Y (ix2 k j) = m ((c.tc : Thread nD τ).loc main_arg2) (ix2 o k) := by
  refine (found_at m after I c 2 t Y h (fetch0_2 t) (ix2 k j) (below k j _ (size2 t) k.isLt (by omega))).trans ?_
  show ((cfg0.win 2).blk t).view.read (Elt Ideal) (V m c main_v1) _ = _
  blk_simp
  have e : ((win0_2.blk t).view.emb fun a => ⟨((ix2 k j : S39x512.Idx) a).val, below k j _ (size2 t) k.isLt (by omega) a⟩) = (ix2 k o : S39x11008.Idx) := by
    refine funext fun a => Fin.ext ?_
    match a with
    | ⟨0, _⟩ => blk_simp [idx2]
    | ⟨1, _⟩ => blk_simp [idx2]; show t.val * 512 + j.val = o.val; omega
  refine (congrArg (V m c main_v1) e).trans ?_
  entry_read
  pointwise

/-- The scales of the offsets. -/
theorem dmin_at (t : Fin cfg0.N) (Y : Vec Ideal S39x512 .i16) (h : (rdat m after I c).Finds 3 t Y) (k : Fin 39) (j : Fin 512) (o : Fin 11008) (ho : 512 * t.val + j.val = o.val) :
    Y (ix2 k j) = m ((c.tc : Thread nD τ).loc main_arg3) (ix2 o k) := by
  refine (found_at m after I c 3 t Y h (fetch0_3 t) (ix2 k j) (below k j _ (size3 t) k.isLt (by omega))).trans ?_
  show ((cfg0.win 3).blk t).view.read (Elt Ideal) (V m c main_v2) _ = _
  blk_simp
  have e : ((win0_3.blk t).view.emb fun a => ⟨((ix2 k j : S39x512.Idx) a).val, below k j _ (size3 t) k.isLt (by omega) a⟩) = (ix2 k o : S39x11008.Idx) := by
    refine funext fun a => Fin.ext ?_
    match a with
    | ⟨0, _⟩ => blk_simp [idx3]
    | ⟨1, _⟩ => blk_simp [idx3]; show t.val * 512 + j.val = o.val; omega
  refine (congrArg (V m c main_v2) e).trans ?_
  entry_read
  pointwise

/-- The scales. -/
theorem sc_at (t : Fin cfg0.N) (Y : Vec Ideal S312x512 .i8) (h : (rdat m after I c).Finds 4 t Y) (k : Fin 312) (j : Fin 512) (o : Fin 11008) (ho : 512 * t.val + j.val = o.val) :
    Y (ix2 k j) = m ((c.tc : Thread nD τ).loc main_arg4) (ix2 o k) := by
  refine (found_at m after I c 4 t Y h (fetch0_4 t) (ix2 k j) (below k j _ (size4 t) k.isLt (by omega))).trans ?_
  show ((cfg0.win 4).blk t).view.read (Elt Ideal) (V m c main_v3) _ = _
  blk_simp
  have e : ((win0_4.blk t).view.emb fun a => ⟨((ix2 k j : S312x512.Idx) a).val, below k j _ (size4 t) k.isLt (by omega) a⟩) = (ix2 k o : S312x11008.Idx) := by
    refine funext fun a => Fin.ext ?_
    match a with
    | ⟨0, _⟩ => blk_simp [idx4]
    | ⟨1, _⟩ => blk_simp [idx4]; show t.val * 512 + j.val = o.val; omega
  refine (congrArg (V m c main_v3) e).trans ?_
  entry_read
  pointwise

/-- The offsets. -/
theorem mn_at (t : Fin cfg0.N) (Y : Vec Ideal S312x512 .i8) (h : (rdat m after I c).Finds 5 t Y) (k : Fin 312) (j : Fin 512) (o : Fin 11008) (ho : 512 * t.val + j.val = o.val) :
    Y (ix2 k j) = m ((c.tc : Thread nD τ).loc main_arg5) (ix2 o k) := by
  refine (found_at m after I c 5 t Y h (fetch0_5 t) (ix2 k j) (below k j _ (size5 t) k.isLt (by omega))).trans ?_
  show ((cfg0.win 5).blk t).view.read (Elt Ideal) (V m c main_v4) _ = _
  blk_simp
  have e : ((win0_5.blk t).view.emb fun a => ⟨((ix2 k j : S312x512.Idx) a).val, below k j _ (size5 t) k.isLt (by omega) a⟩) = (ix2 k o : S312x11008.Idx) := by
    refine funext fun a => Fin.ext ?_
    match a with
    | ⟨0, _⟩ => blk_simp [idx5]
    | ⟨1, _⟩ => blk_simp [idx5]; show t.val * 512 + j.val = o.val; omega
  refine (congrArg (V m c main_v4) e).trans ?_
  entry_read
  pointwise

/-- The activations the first point finds. -/
theorem x_at (t : Fin cfg0.N) (ht : t.val = 0) (Y : Vec Ideal S96x9984 .bf16) (h : (rdat m after I c).Finds 0 t Y) (r : Fin 96) (p : Fin 9984) :
    Y (ix2 r p) = m ((c.tc : Thread nD τ).loc main_arg0) (ix3 r 0 p) := by
  refine (found_at m after I c 0 t Y h ((fetch0_0 t).mpr (by omega)) (ix2 r p) (below r p _ (size0 t) r.isLt p.isLt)).trans ?_
  show ((cfg0.win 0).blk t).view.read (Elt Ideal) (V m c main_v0) _ = _
  blk_simp
  have e : ((win0_0.blk t).view.emb fun a => ⟨((ix2 r p : S96x9984.Idx) a).val, below r p _ (size0 t) r.isLt p.isLt a⟩) = (ix2 r p : S96x9984.Idx) := by
    refine funext fun a => Fin.ext ?_
    match a with
    | ⟨0, _⟩ => blk_simp [idx0]
    | ⟨1, _⟩ => blk_simp [idx0]
  refine (congrArg (V m c main_v0) e).trans ?_
  entry_read
  pointwise

/-- The first grid point is the one numbered zero. -/
theorem first_iff : ∀ t : Fin grid0.N, isFirst (grid0.coords t) ↔ t.val = 0 := by decide +kernel

/-- The arrays as the product reads them. -/
def arrays : Cert.Q4.Arrays where
  x := m ((c.tc : Thread nD τ).loc main_arg0)
  qs := m ((c.tc : Thread nD τ).loc main_arg1)
  d := m ((c.tc : Thread nD τ).loc main_arg2)
  dmin := m ((c.tc : Thread nD τ).loc main_arg3)
  sc := m ((c.tc : Thread nD τ).loc main_arg4)
  mn := m ((c.tc : Thread nD τ).loc main_arg5)

/-- After the first point the scratch holds the activations, each group's two halves interleaved. -/
def Filled (c : Dev nD) (t : Fin (cfg0.N + 1)) (f8 : Bf (F := Ideal) c scr0) : Prop :=
  t.val ≠ 0 → ∀ (r : Fin 96) (p : Fin 9984), scr0.view.read (Elt Ideal) f8 (ix2 r p) = m ((c.tc : Thread nD τ).loc main_arg0) (ix3 r 0 (source p))

/-- A point leaves its columns of the product, at those inside the array. -/
def Columns (c : Dev nD) (t : Fin cfg0.N) (X : Vec Ideal S96x512 .bf16) : Prop :=
  ∀ (r : Fin 96) (j : Fin 512) (o : Fin 11008), 512 * t.val + j.val = o.val → X (ix2 r j) = (arrays m c).value r o

/-- A group's half, read at place `r` of tile `k`. -/
theorem term_eq (a : Cert.Q4.Arrays) (t : ℕ) (Y2 : Vec Ideal S512x4992 .i8) (Y3 Y4 : Vec Ideal S39x512 .i16) (Y5 Y6 : Vec Ideal S312x512 .i8) (xs : Vec Ideal S96x9984 .bf16)
    (j : Fin 512) (o : Fin 11008)
    (h2 : ∀ p, Y2 (ix2 j p) = a.qs (ix2 o p)) (h3 : ∀ k, Y3 (ix2 k j) = a.d (ix2 o k)) (h4 : ∀ k, Y4 (ix2 k j) = a.dmin (ix2 o k))
    (h5 : ∀ k, Y5 (ix2 k j) = a.sc (ix2 o k)) (h6 : ∀ k, Y6 (ix2 k j) = a.mn (ix2 o k)) (hx : ∀ r p, xs (ix2 r p) = a.x (ix3 r 0 (source p)))
    (r : Fin 96) (k : Fin 39) (s : Fin 256) :
    tileTerm Y2 Y3 Y4 Y5 Y6 xs r j k s
      = a.term r o ⟨4 * k.val + s.val / 64, by omega⟩ ⟨s.val % 2, by omega⟩ ⟨s.val % 64 / 2, by omega⟩ := by
  unfold tileTerm Cert.Q4.Arrays.term Cert.Q4.Arrays.weight
  rw [hx, h2, h3, h4, h5, h6]
  have e1 : source ⟨256 * k.val + s.val, by omega⟩ = ⟨64 * (4 * k.val + s.val / 64) + 32 * (s.val % 2) + s.val % 64 / 2, by omega⟩ :=
    Fin.ext (by simp only [source]; omega)
  have e2 : (⟨128 * k.val + (32 * (s.val / 64) + s.val % 64 / 2), by omega⟩ : Fin 4992) = ⟨32 * (4 * k.val + s.val / 64) + s.val % 64 / 2, by omega⟩ :=
    Fin.ext (by simp only; omega)
  have e3 : k = ⟨(4 * k.val + s.val / 64) / 4, by omega⟩ := Fin.ext (by simp only; omega)
  have e4 : (⟨8 * k.val + (2 * (s.val / 64) + s.val % 2), by omega⟩ : Fin 312) = ⟨2 * (4 * k.val + s.val / 64) + s.val % 2, by omega⟩ :=
    Fin.ext (by simp only; omega)
  refine congrArg₂ (· * ·) (congrArg (fun p => a.x (ix3 r 0 p)) e1) (congrArg₂ (· - ·) (congrArg₂ (· * ·) ?_ ?_) ?_)
  · exact congrArg (fun p => quant ⟨s.val % 2, by omega⟩ (a.qs (ix2 o p))) e2
  · exact congrArg₂ (fun p q => affine (a.d (ix2 o p)) (a.sc (ix2 o q))) e3 e4
  · exact congrArg₂ (fun p q => affine (a.dmin (ix2 o p)) (a.mn (ix2 o q))) e3 e4

/-- Each point keeps the scratch filled and leaves its columns. -/
theorem body_value : (rdat m (Columns m) (Filled m) c).BodyObligation (defs₀ (F := Ideal)) Variants.none () Set.univ := by
  refine obligation m _ _ c fun t Y hY f8 hf8 => ?_
  have key : ∀ (r : Fin 96) (p : Fin 9984), scr0.view.read (Elt Ideal) (xsAfter (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) scr0 (Memref.isWhole_whole _) scr1 (Memref.isWhole_whole _) scr2 (Memref.isWhole_whole _) (Y 0) f8) (ix2 r p)
      = m ((c.tc : Thread nD τ).loc main_arg0) (ix3 r 0 (source p)) := by
    intro r p
    by_cases hi : isFirst (grid0.coords t)
    · rw [show xsAfter (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) scr0 (Memref.isWhole_whole _) scr1 (Memref.isWhole_whole _) scr2 (Memref.isWhole_whole _) (Y 0) f8 = _ from by unfold xsAfter; exact if_pos hi]
      rw [filled_at]
      exact x_at m _ _ c t ((first_iff t).mp hi) (Y 0) (hY 0) r (source p)
    · rw [show xsAfter (F := Ideal) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) scr0 (Memref.isWhole_whole _) scr1 (Memref.isWhole_whole _) scr2 (Memref.isWhole_whole _) (Y 0) f8 = _ from by unfold xsAfter; exact if_neg hi]
      exact hf8 (fun h => hi ((first_iff t).mpr h)) r p
  refine ⟨fun _ => key, fun r j o ho => ?_⟩
  rw [out_at]
  refine (Finset.sum_congr rfl fun k _ => Finset.sum_congr rfl fun s _ => ?_).trans (Cert.Q4.sum_tiles ((arrays m c).term r o))
  exact term_eq (arrays m c) t.val (Y 1) (Y 2) (Y 3) (Y 4) (Y 5) _ j o (fun p => q_at m _ _ c t (Y 1) (hY 1) j p o ho)
    (fun k => d_at m _ _ c t (Y 2) (hY 2) k j o ho) (fun k => dmin_at m _ _ c t (Y 3) (hY 3) k j o ho)
    (fun k => sc_at m _ _ c t (Y 4) (hY 4) k j o ho) (fun k => mn_at m _ _ c t (Y 5) (hY 5) k j o ho) key r k s

/-- After the launch the result is the product. -/
theorem result_value (r : PUnit × MemSt nD τ sig (Elt Ideal)) (h : Pipeline.RDat.FramePost cfg0 (rdat m (Columns m) (Filled m)) (V m) r) :
    r.2.mem ((c.tc : Thread nD τ).loc main_v5) = fun i => (arrays m c).value (i 0) (i 1) := by
  obtain ⟨X, hX, hA⟩ := h.exists_exact c
  refine (hA 6).trans (Pipeline.Dat.arrAt_eq_of_covers ((rdat m (Columns m) (Filled m) c).withAfter X) 6 (fun i => (arrays m c).value (i 0) (i 1)) (by decide +kernel) fun t ht y => ?_)
  obtain ⟨Y, -, hL⟩ := hX 6 t ht
  have hC : Columns m c t (X 6 t) := hL
  have h0 : (y 0).val < 96 := lt_of_lt_of_eq (y 0).isLt (congrFun (size6 t) 0)
  have h1 : (y 1).val < min 512 (11008 - 512 * t.val) := lt_of_lt_of_eq (y 1).isLt (congrFun (size6 t) 1)
  have e := hC ⟨(y 0).val, h0⟩ ⟨(y 1).val, by omega⟩ ⟨512 * t.val + (y 1).val, by omega⟩ rfl
  have ej : (cfg0.win 6).xinj (cfg0.grid.coords t) y = (ix2 ⟨(y 0).val, h0⟩ ⟨(y 1).val, by omega⟩ : S96x512.Idx) := by
    refine funext fun a => ?_
    match a with
    | ⟨0, _⟩ => rfl
    | ⟨1, _⟩ => rfl
  have e0 : (((cfg0.win 6).blk t).view.emb y : S96x11008.Idx) 0 = ⟨(y 0).val, h0⟩ := Fin.ext (by blk_simp [idx6])
  have e1 : (((cfg0.win 6).blk t).view.emb y : S96x11008.Idx) 1 = (⟨512 * t.val + (y 1).val, by omega⟩ : Fin 11008) :=
    Fin.ext (by blk_simp [idx6]; show t.val * 512 + (y 1).val = 512 * t.val + (y 1).val; omega)
  refine (cast_eq _ _).trans ?_
  show X 6 t ((cfg0.win 6).xinj (cfg0.grid.coords t) y) = _
  rw [ej]
  exact e.trans (congrArg₂ (arrays m c).value e0.symm e1.symm)

/-- The kernel's idealization runs, leaves the product in its result and keeps its arguments. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v5) = (fun i => (arrays m c).value (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  launch m (Columns m) (Filled m) g (fun c => funext fun f => eq_true fun h => absurd rfl h) (fun c => body_value m c) _
    fun r h c => ⟨result_value m c r h.1, args_of m _ _ r h.1 c⟩

end Cert.KernelIdeal.Hand

end
-- ==== Proof.RefRun.lean ====
/-
  The reference: a straight line of host operations. Its run, its arguments and its result.
-/
module

public import proofs.«01_k».proof.Defs
public import proofs.«01_k».proof.Proof.Gen.ReferenceIdeal
public import Idealize.ShloMosaic.Lib.Claim
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

set_option maxRecDepth 16384

/-- The reference runs, its arguments end as launched, and it has no semaphore. -/
theorem frame_r : Cert.quiescent_ReferenceIdeal := by
  intro m g hpre
  hlo_run
  all_goals first
    | exact sem_eq_zero_of_no_sems (by decide) _
    | exact fun _ => ⟨trivial, trivial, trivial, trivial, trivial, trivial⟩

end Cert.ReferenceIdeal.Hand

end
-- ==== Proof.RefValue.lean ====
/-
  The value of the reference: its composed result read at one place is the product.
-/
module

public import proofs.«01_k».proof.Defs
public import proofs.«01_k».proof.Proof.Gen.ReferenceIdeal
public import proofs.«01_k».proof.Proof.Spec
public import Idealize.ShloMosaic.Lib.Claim
public import Idealize.ShloMosaic.Lib.Quiescent
public import Idealize.ShloMosaic.Lib.Pointwise

@[expose] public section
noncomputable section
namespace Cert.ReferenceIdeal.Hand

open Cert.ReferenceIdeal Cert.ReferenceIdeal.Gen
open Idealize.ShloMosaic Idealize.ShloMosaic.TcCoe Idealize.ShloMosaic.StableHlo Idealize.SL.Sem
set_option maxRecDepth 16384

abbrev word39 (b : BitVec 32) : Vec Ideal S11008x39 .i32 := broadcastInDim S11008x39 ![] Facts₀.bcast_S_S11008x39 (constantI S_ 32 b)

/-- The exponent field of every pattern. -/
def fields (s : Vec Ideal S11008x39 .i16) : Vec Ideal S11008x39 .i32 :=
  andi (Host.shrsi (extsi 32 s (by decide)) (word39 10#32)) (word39 31#32)

/-- The magnitude of every pattern. -/
def magnitude (s : Vec Ideal S11008x39 .i16) : FVec Ideal S11008x39 .f32 :=
  mulf (mulf
    (sitofp .f32 (select (cmpi .eq (fields s) (word39 0#32)) (andi (extsi 32 s (by decide)) (word39 1023#32))
      (addi (andi (extsi 32 s (by decide)) (word39 1023#32)) (word39 1024#32)) : Vec Ideal S11008x39 .i32))
    (sitofp .f32 (Host.shli (word39 1#32) (subi (maxsi (fields s) (word39 1#32)) (word39 1#32)) : Vec Ideal S11008x39 .i32)))
    (broadcastInDim S11008x39 ![] Facts₀.bcast_S_S11008x39 (constant S_ .f32 864026624#32))

/-- Every pattern as a number. -/
def halves (s : Vec Ideal S11008x39 .i16) : FVec Ideal S11008x39 .f32 :=
  select (cmpi .slt (extsi 32 s (by decide)) (word39 0#32)) (Host.negf (magnitude s)) (magnitude s)

theorem halves_at (s : Vec Ideal S11008x39 .i16) (o : Fin 11008) (k : Fin 39) : halves s (ix2 o k) = Cert.Q4.half (s (ix2 o k)) := by
  pointwise [halves, magnitude, fields]
  exact Cert.Q4.reference_half _

/-- Every sub-block's scale, or offset. -/
def affines (s : Vec Ideal S11008x39 .i16) (z : Vec Ideal S11008x312 .i8) : FVec Ideal S11008x156x2 .bf16 :=
  shapeCast S11008x156x2 (truncf .bf16 (mulf
    (broadcastInDim S11008x39x8 ![0, 1, 2] Facts₀.bcast_S11008x39x1_S11008x39x8_0_1_2
      (broadcastInDim S11008x39x1 ![0, 1] Facts₀.bcast_S11008x39_S11008x39x1_0_1 (halves s)))
    (sitofp .f32 (extui 32 (shapeCast S11008x39x8 z Facts₀.shapeCasts_S11008x312_S11008x39x8 : Vec Ideal S11008x39x8 .i8) (by decide) : Vec Ideal S11008x39x8 .i32)))
    Facts₀.bitsLt_bf16_f32) Facts₀.shapeCasts_S11008x39x8_S11008x156x2

theorem affines_at (s : Vec Ideal S11008x39 .i16) (z : Vec Ideal S11008x312 .i8) (o : Fin 11008) (g : Fin 156) (h : Fin 2) :
    affines s z (ix3 o g h) = Cert.Q4.affine (s (ix2 o ⟨g.val / 4, by omega⟩)) (z (ix2 o ⟨2 * g.val + h.val, by omega⟩)) := by
  pointwise [affines]
  rw [halves_at]
  have e : (⟨g.val / 4 * 8 + (g.val % 4 * 2 + h.val), by omega⟩ : Fin 312) = ⟨2 * g.val + h.val, by omega⟩ := Fin.ext (by simp only; omega)
  rw [e]
  rfl

abbrev group0 (s : FVec Ideal S11008x156x2 .bf16) : FVec Ideal S11008x156x32 .bf16 :=
  broadcastInDim S11008x156x32 ![0, 1, 2] Facts₀.bcast_S11008x156x1_S11008x156x32_0_1_2
    (broadcastInDim S11008x156x1 ![0, 1] Facts₀.bcast_S11008x156_S11008x156x1_0_1
      (shapeCast S11008x156 (extractStridedSlice S11008x156x1 ![0, 0, 0] s Facts₀.slices_S11008x156x2_S11008x156x1_0_0_0) Facts₀.shapeCasts_S11008x156x1_S11008x156))

abbrev group1 (s : FVec Ideal S11008x156x2 .bf16) : FVec Ideal S11008x156x32 .bf16 :=
  broadcastInDim S11008x156x32 ![0, 1, 2] Facts₀.bcast_S11008x156x1_S11008x156x32_0_1_2
    (broadcastInDim S11008x156x1 ![0, 1] Facts₀.bcast_S11008x156_S11008x156x1_0_1
      (shapeCast S11008x156 (extractStridedSlice S11008x156x1 ![0, 0, 1] s Facts₀.slices_S11008x156x2_S11008x156x1_0_0_1) Facts₀.shapeCasts_S11008x156x1_S11008x156))

abbrev bytes (q : Vec Ideal S11008x4992 .i8) : Vec Ideal S11008x156x32 .i32 :=
  shapeCast S11008x156x32 (extui 32 q (by decide) : Vec Ideal S11008x4992 .i32) Facts₀.shapeCasts_S11008x4992_S11008x156x32

abbrev bword (b : BitVec 32) : Vec Ideal S11008x156x32 .i32 := broadcastInDim S11008x156x32 ![] Facts₀.bcast_S_S11008x156x32 (constantI S_ 32 b)

/-- The weights of the low halves of all groups, and of the high ones. -/
def weights0 (q : Vec Ideal S11008x4992 .i8) (s o : FVec Ideal S11008x156x2 .bf16) : FVec Ideal S11008x156x32 .bf16 :=
  subf (mulf (sitofp .bf16 (andi (bytes q) (bword 15#32) : Vec Ideal S11008x156x32 .i32)) (group0 s)) (group0 o)

def weights1 (q : Vec Ideal S11008x4992 .i8) (s o : FVec Ideal S11008x156x2 .bf16) : FVec Ideal S11008x156x32 .bf16 :=
  subf (mulf (sitofp .bf16 (Host.shrsi (bytes q) (bword 4#32) : Vec Ideal S11008x156x32 .i32)) (group1 s)) (group1 o)

/-- The halves of all groups of the rows. -/
def rows0 (x : FVec Ideal S96x1x9984 .bf16) : FVec Ideal S96x156x32 .bf16 :=
  shapeCast S96x156x32 (extractStridedSlice S96x156x1x32 ![0, 0, 0, 0] (shapeCast S96x156x2x32 x Facts₀.shapeCasts_S96x1x9984_S96x156x2x32)
    Facts₀.slices_S96x156x2x32_S96x156x1x32_0_0_0_0) Facts₀.shapeCasts_S96x156x1x32_S96x156x32

def rows1 (x : FVec Ideal S96x1x9984 .bf16) : FVec Ideal S96x156x32 .bf16 :=
  shapeCast S96x156x32 (extractStridedSlice S96x156x1x32 ![0, 0, 1, 0] (shapeCast S96x156x2x32 x Facts₀.shapeCasts_S96x1x9984_S96x156x2x32)
    Facts₀.slices_S96x156x2x32_S96x156x1x32_0_0_1_0) Facts₀.shapeCasts_S96x156x1x32_S96x156x32

/-- The result. -/
def result (x : FVec Ideal S96x1x9984 .bf16) (q : Vec Ideal S11008x4992 .i8) (s o : FVec Ideal S11008x156x2 .bf16) : FVec Ideal S96x11008 .bf16 :=
  truncf .bf16 (addf
    (Host.dotGeneral dot_S96x156x32_S11008x156x32_S96x11008_12_12_0_0_n_n none (rows0 x) (weights0 q s o) : FVec Ideal S96x11008 .f32)
    (Host.dotGeneral dot_S96x156x32_S11008x156x32_S96x11008_12_12_0_0_n_n none (rows1 x) (weights1 q s o))) Facts₀.bitsLt_bf16_f32

/-- The arrays of the product, from the arguments. -/
abbrev arrays (x : Vec Ideal S96x1x9984 .bf16) (q : Vec Ideal S11008x4992 .i8) (d dmin : Vec Ideal S11008x39 .i16)
    (sc mn : Vec Ideal S11008x312 .i8) : Cert.Q4.Arrays := ⟨x, q, d, dmin, sc, mn⟩

theorem result_at (x : Vec Ideal S96x1x9984 .bf16) (q : Vec Ideal S11008x4992 .i8) (d dmin : Vec Ideal S11008x39 .i16)
    (sc mn : Vec Ideal S11008x312 .i8) (m : Fin 96) (o : Fin 11008) :
    result x q (affines d sc) (affines dmin mn) (ix2 m o) = (arrays x q d dmin sc mn).value m o := by
  generalize hs : affines d sc = s
  generalize ho : affines dmin mn = t
  pointwise [result, rows0, rows1, weights0, weights1, dot_S96x156x32_S11008x156x32_S96x11008_12_12_0_0_n_n]
  subst hs ho
  unfold Cert.Q4.Arrays.value
  refine congrArg₂ (· + ·) (Finset.sum_congr rfl fun g _ => Finset.sum_congr rfl fun j _ => ?_) (Finset.sum_congr rfl fun g _ => Finset.sum_congr rfl fun j _ => ?_)
  · rw [affines_at, affines_at]
    have e1 : (⟨g.val * 64 + j.val, by omega⟩ : Fin 9984) = ⟨64 * g.val + 32 * (0 : Fin 2).val + j.val, by simp; omega⟩ := Fin.ext (by simp; omega)
    have e2 : (⟨g.val * 32 + j.val, by omega⟩ : Fin 4992) = ⟨32 * g.val + j.val, by omega⟩ := Fin.ext (by simp only; omega)
    rw [e1, e2]
    rfl
  · rw [affines_at, affines_at]
    have e1 : (⟨g.val * 64 + 32 + j.val, by omega⟩ : Fin 9984) = ⟨64 * g.val + 32 * (1 : Fin 2).val + j.val, by simp; omega⟩ := Fin.ext (by simp; omega)
    have e2 : (⟨g.val * 32 + j.val, by omega⟩ : Fin 4992) = ⟨32 * g.val + j.val, by omega⟩ := Fin.ext (by simp only; omega)
    rw [e1, e2]
    rfl

/-- The run of the reference: the result is the product, and the arguments end as launched. -/
theorem run (m : (ℓ : Loc nD τ sig) → Buf (Elt Ideal) ℓ) (g : Dev nD → PrngReg) :
    θ_run defs (onTc main) ⟨m, fun _ => 0, g⟩ (fun r => ∀ c : Dev nD, r.2.mem ((c.tc : Thread nD τ).loc main_v106)
        = (fun i => (arrays (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))).value (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  hlo_run
  show result (m ((c.tc : Thread nD τ).loc main_arg0)) (m ((c.tc : Thread nD τ).loc main_arg1))
        (affines (m ((c.tc : Thread nD τ).loc main_arg2)) (m ((c.tc : Thread nD τ).loc main_arg4)))
        (affines (m ((c.tc : Thread nD τ).loc main_arg3)) (m ((c.tc : Thread nD τ).loc main_arg5))) = _
  funext i
  have hi : i = ix2 (i 0) (i 1) := by
    funext k
    match k with
    | ⟨0, _⟩ => rfl
    | ⟨1, _⟩ => rfl
  rw [hi]
  exact result_at _ _ _ _ _ _ _ _

end Cert.ReferenceIdeal.Hand
end
-- ==== Proof.lean ====
/- The proof of the certificate's claims, assembled from the modules under proof/Proof: the kernel's frame on bits and at exact
   numbers, the reference's frame, the rewriting rules' statements, and the value claim. -/
module

public import proofs.«01_k».proof.Defs
public import proofs.«01_k».proof.Proof.BitsFrame
public import proofs.«01_k».proof.Proof.IdealFrame
public import proofs.«01_k».proof.Proof.IdealValue
public import proofs.«01_k».proof.Proof.RefRun
public import proofs.«01_k».proof.Proof.RefValue
public import Idealize.ShloMosaic.Lib.Bf16PairInverse

@[expose] public section

noncomputable section

namespace Cert.Proof

open Idealize.ShloMosaic Idealize.SL.Sem

/-- The kernel on bits runs, keeps its arguments and leaves every counter at zero. -/
theorem frame_p : Cert.quiescent_Kernel (hKernel := Cert.Kernel.Gen.facts) :=
  fun m ρ _ => Cert.Kernel.Hand.frame_quiescent m ρ

/-- Its idealization likewise. -/
theorem frame_pi : Cert.quiescent_KernelIdeal (hKernelIdeal := Cert.KernelIdeal.Gen.facts) :=
  fun m ρ _ => Cert.KernelIdeal.Hand.frame_quiescent m ρ

/-- The rewrites the idealization made, each by its rule. -/
theorem preserves : Cert.preserves_Kernel_KernelIdeal :=
  ⟨IdealRules.bf16_pair.bufferStatement Cert.KernelIdeal.S156x2x512 Cert.KernelIdeal.S156x1x512,
    IdealRules.bf16_pair.statement Cert.KernelIdeal.S8x512 Cert.KernelIdeal.S4x512,
    IdealRules.bf16_pair.statement Cert.KernelIdeal.S4x2x512 Cert.KernelIdeal.S4x1x512⟩

/-- The kernel's idealization and the reference leave equal results: both leave the one product of their arguments. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c i => (Cert.KernelIdeal.Hand.arrays m c).value (i 0) (i 1), Cert.KernelIdeal.Hand.run m g, ?_⟩
  refine Idealize.ShloMosaic.θ_run_mono (Cert.ReferenceIdeal.Hand.run m' g') fun r h c => ?_
  obtain ⟨hv, ha⟩ := h c
  obtain ⟨h0, h1, h2, h3, h4, h5⟩ := hagree c
  refine ⟨hv.trans ?_, ha⟩
  rw [h0, h1, h2, h3, h4, h5]
  rfl

theorem claim : Cert.Claim := ⟨Cert.Kernel.Gen.facts, Cert.KernelIdeal.Gen.facts, Cert.ReferenceIdeal.Gen.facts,
  frame_p, frame_pi, Cert.ReferenceIdeal.Hand.frame_r, preserves, algebraic⟩

end Cert.Proof

end
